-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S3x64x2x128 Cert.KernelIdeal.S3x64x1x128
  ∧ IdealRules.bf16_pair.PackStatement Cert.KernelIdeal.S8x128
  ∧ IdealRules.bf16_pair.SelectZeroStatement Cert.KernelIdeal.S8x128
  ∧ IdealRules.bf16_pair.Statement Cert.KernelIdeal.S1x8x2x128 Cert.KernelIdeal.S1x8x1x128
  ∧ IdealRules.bf16_pair.Statement Cert.KernelIdeal.S1x64x2x128 Cert.KernelIdeal.S1x64x1x128
  ∧ IdealRules.bf16_pair.Statement Cert.KernelIdeal.S128x128 Cert.KernelIdeal.S64x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x960 : Shape := ⟨2, ![3, 960]⟩
abbrev S24x256x40 : Shape := ⟨3, ![24, 256, 40]⟩
abbrev S131072x24x32 : Shape := ⟨3, ![131072, 24, 32]⟩
abbrev S3x24x40x1 : Shape := ⟨4, ![3, 24, 40, 1]⟩
abbrev S24x40x256 : Shape := ⟨3, ![24, 40, 256]⟩
abbrev S3x24x256 : Shape := ⟨3, ![3, 24, 256]⟩
abbrev S1x24x40x1 : Shape := ⟨4, ![1, 24, 40, 1]⟩
abbrev S24x40x1 : Shape := ⟨3, ![24, 40, 1]⟩
abbrev S24x256 : Shape := ⟨2, ![24, 256]⟩
abbrev S1x24x256 : Shape := ⟨3, ![1, 24, 256]⟩
abbrev S3x24x2x1x128 : Shape := ⟨5, ![3, 24, 2, 1, 128]⟩
abbrev S3x24x2x8x128 : Shape := ⟨5, ![3, 24, 2, 8, 128]⟩
abbrev S32x128 : Shape := ⟨2, ![32, 128]⟩
abbrev S_ : Shape := ⟨0, ![]⟩
abbrev S24x32x131072 : Shape := ⟨3, ![24, 32, 131072]⟩
abbrev S3x4194304 : Shape := ⟨2, ![3, 4194304]⟩
abbrev S24x32x2048 : Shape := ⟨3, ![24, 32, 2048]⟩
abbrev S3x65536 : Shape := ⟨2, ![3, 65536]⟩
abbrev S3x64x128 : Shape := ⟨3, ![3, 64, 128]⟩
abbrev S8x128 : Shape := ⟨2, ![8, 128]⟩
abbrev S1x32x128 : Shape := ⟨3, ![1, 32, 128]⟩
abbrev S1x1x1x8x128 : Shape := ⟨5, ![1, 1, 1, 8, 128]⟩
abbrev S8x128x1 : Shape := ⟨3, ![8, 128, 1]⟩
abbrev S1x8x128 : Shape := ⟨3, ![1, 8, 128]⟩
abbrev S1x64x128 : Shape := ⟨3, ![1, 64, 128]⟩
abbrev S64x128 : Shape := ⟨2, ![64, 128]⟩
abbrev S128x128 : Shape := ⟨2, ![128, 128]⟩
abbrev S1x4096 : Shape := ⟨2, ![1, 4096]⟩
abbrev S3x4096 : Shape := ⟨2, ![3, 4096]⟩

abbrev nBuf : Space → Nat
  | .hbm => 32
  | .vmem => 10
  | .smem => 0
  | _ => 0

abbrev bufTy : (tb : Table) → Fin (tcTables nBuf tb) → BufTy
  | .hbm, ⟨0, _⟩ => ⟨S3x960, .bf16⟩
  | .hbm, ⟨1, _⟩ => ⟨S24x256x40, .f32⟩
  | .hbm, ⟨2, _⟩ => ⟨S131072x24x32, .i8⟩
  | .hbm, ⟨3, _⟩ => ⟨S3x24x40x1, .bf16⟩
  | .hbm, ⟨4, _⟩ => ⟨S24x40x256, .f32⟩
  | .hbm, ⟨5, _⟩ => ⟨S3x24x256, .f32⟩
  | .hbm, ⟨6, _⟩ => ⟨S3x24x2x1x128, .f32⟩
  | .hbm, ⟨7, _⟩ => ⟨S3x24x2x8x128, .f32⟩
  | .hbm, ⟨8, _⟩ => ⟨S32x128, .i32⟩
  | .hbm, ⟨9, _⟩ => ⟨S_, .i32⟩
  | .hbm, ⟨10, _⟩ => ⟨S_, .i32⟩
  | .hbm, ⟨11, _⟩ => ⟨S32x128, .i32⟩
  | .hbm, ⟨12, _⟩ => ⟨S32x128, .i32⟩
  | .hbm, ⟨13, _⟩ => ⟨S32x128, .i32⟩
  | .hbm, ⟨14, _⟩ => ⟨S_, .i32⟩
  | .hbm, ⟨15, _⟩ => ⟨S32x128, .i32⟩
  | .hbm, ⟨16, _⟩ => ⟨S32x128, .i1⟩
  | .hbm, ⟨17, _⟩ => ⟨S32x128, .i32⟩
  | .hbm, ⟨18, _⟩ => ⟨S32x128, .i32⟩
  | .hbm, ⟨19, _⟩ => ⟨S_, .i32⟩
  | .hbm, ⟨20, _⟩ => ⟨S32x128, .i32⟩
  | .hbm, ⟨21, _⟩ => ⟨S32x128, .i1⟩
  | .hbm, ⟨22, _⟩ => ⟨S32x128, .i1⟩
  | .hbm, ⟨23, _⟩ => ⟨S_, .i32⟩
  | .hbm, ⟨24, _⟩ => ⟨S32x128, .i32⟩
  | .hbm, ⟨25, _⟩ => ⟨S32x128, .i32⟩
  | .hbm, ⟨26, _⟩ => ⟨S32x128, .i32⟩
  | .hbm, ⟨27, _⟩ => ⟨S32x128, .i32⟩
  | .hbm, ⟨28, _⟩ => ⟨S32x128, .i1⟩
  | .hbm, ⟨29, _⟩ => ⟨S32x128, .bf16⟩
  | .hbm, ⟨30, _⟩ => ⟨S24x32x131072, .i8⟩
  | .hbm, ⟨31, _⟩ => ⟨S3x4194304, .bf16⟩
  | .local _ .vmem, ⟨0, _⟩ => ⟨S3x24x40x1, .bf16⟩
  | .local _ .vmem, ⟨1, _⟩ => ⟨S24x40x256, .f32⟩
  | .local _ .vmem, ⟨2, _⟩ => ⟨S3x24x256, .f32⟩
  | .local _ .vmem, ⟨3, _⟩ => ⟨S3x24x2x8x128, .f32⟩
  | .local _ .vmem, ⟨4, _⟩ => ⟨S32x128, .bf16⟩
  | .local _ .vmem, ⟨5, _⟩ => ⟨S24x32x2048, .i8⟩
  | .local _ .vmem, ⟨6, _⟩ => ⟨S24x32x2048, .i8⟩
  | .local _ .vmem, ⟨7, _⟩ => ⟨S3x65536, .bf16⟩
  | .local _ .vmem, ⟨8, _⟩ => ⟨S3x65536, .bf16⟩
  | .local _ .vmem, ⟨9, _⟩ => ⟨S3x64x128, .i32⟩
  | _, _ => ⟨S3x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8

abbrev nD : Nat := 1
abbrev τ : Topo := Topo.v7x

variable {F : FTy → Type} [BitOps F]

abbrev grid0 : Pipeline.Grid := .none

abbrev stage0_0 : Fin 1 → Memref sig .tc .vmem S3x24x40x1 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x40x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x24x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![64], ![false]⟩

@[reducible] def k1_t1_loop : Scf.Loop 32 :=
  let c0_i32_3 : BitVec 32 := 0#32
  let c16_i32 : BitVec 32 := 16#32
  let v17 : BitVec 32 := Scalar.addi c0_i32_3 c16_i32
  let c1_i32_4 : BitVec 32 := 1#32
  ⟨c0_i32_3, v17, c1_i32_4⟩
def k1_mult1 (k1_t1 : Fin k1_t1_loop.trips) : BitVec 32 :=
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  v20
def k1_off1 (k1_t1 : Fin k1_t1_loop.trips) : Fin 3 → Nat :=
  let c0 : Index := 0#32
  let c0_8 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v22 : Index := Scalar.indexCast v21
  ![0, 0, v22.toNat]
def k1_off2 (k1_t1 : Fin k1_t1_loop.trips) : Fin 3 → Nat :=
  let c1_49 : Index := 1#32
  let c0_50 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v152 : Index := Scalar.indexCast v21
  ![1, 0, v152.toNat]
def k1_off3 (k1_t1 : Fin k1_t1_loop.trips) : Fin 3 → Nat :=
  let c2_96 : Index := 2#32
  let c0_97 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v294 : Index := Scalar.indexCast v21
  ![2, 0, v294.toNat]
def k1_off4 (k1_t1 : Fin k1_t1_loop.trips) : Fin 3 → Nat :=
  let c3 : Index := 3#32
  let c0_143 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v436 : Index := Scalar.indexCast v21
  ![3, 0, v436.toNat]
def k1_off5 (k1_t1 : Fin k1_t1_loop.trips) : Fin 3 → Nat :=
  let c4 : Index := 4#32
  let c0_189 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v578 : Index := Scalar.indexCast v21
  ![4, 0, v578.toNat]
def k1_off6 (k1_t1 : Fin k1_t1_loop.trips) : Fin 3 → Nat :=
  let c5 : Index := 5#32
  let c0_235 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v720 : Index := Scalar.indexCast v21
  ![5, 0, v720.toNat]
def k1_off7 (k1_t1 : Fin k1_t1_loop.trips) : Fin 3 → Nat :=
  let c6 : Index := 6#32
  let c0_281 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v862 : Index := Scalar.indexCast v21
  ![6, 0, v862.toNat]
def k1_off8 (k1_t1 : Fin k1_t1_loop.trips) : Fin 3 → Nat :=
  let c7 : Index := 7#32
  let c0_327 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v1004 : Index := Scalar.indexCast v21
  ![7, 0, v1004.toNat]
def k1_off9 (k1_t1 : Fin k1_t1_loop.trips) : Fin 3 → Nat :=
  let c8 : Index := 8#32
  let c0_373 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v1146 : Index := Scalar.indexCast v21
  ![8, 0, v1146.toNat]
def k1_off10 (k1_t1 : Fin k1_t1_loop.trips) : Fin 3 → Nat :=
  let c9 : Index := 9#32
  let c0_419 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v1288 : Index := Scalar.indexCast v21
  ![9, 0, v1288.toNat]
def k1_off11 (k1_t1 : Fin k1_t1_loop.trips) : Fin 3 → Nat :=
  let c10 : Index := 10#32
  let c0_465 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v1430 : Index := Scalar.indexCast v21
  ![10, 0, v1430.toNat]
def k1_off12 (k1_t1 : Fin k1_t1_loop.trips) : Fin 3 → Nat :=
  let c11 : Index := 11#32
  let c0_511 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v1572 : Index := Scalar.indexCast v21
  ![11, 0, v1572.toNat]
def k1_off13 (k1_t1 : Fin k1_t1_loop.trips) : Fin 3 → Nat :=
  let c12 : Index := 12#32
  let c0_557 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v1714 : Index := Scalar.indexCast v21
  ![12, 0, v1714.toNat]
def k1_off14 (k1_t1 : Fin k1_t1_loop.trips) : Fin 3 → Nat :=
  let c13 : Index := 13#32
  let c0_603 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v1856 : Index := Scalar.indexCast v21
  ![13, 0, v1856.toNat]
def k1_off15 (k1_t1 : Fin k1_t1_loop.trips) : Fin 3 → Nat :=
  let c14 : Index := 14#32
  let c0_649 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v1998 : Index := Scalar.indexCast v21
  ![14, 0, v1998.toNat]
def k1_off16 (k1_t1 : Fin k1_t1_loop.trips) : Fin 3 → Nat :=
  let c15 : Index := 15#32
  let c0_695 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v2140 : Index := Scalar.indexCast v21
  ![15, 0, v2140.toNat]
def k1_off17 (k1_t1 : Fin k1_t1_loop.trips) : Fin 3 → Nat :=
  let c16 : Index := 16#32
  let c0_741 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v2282 : Index := Scalar.indexCast v21
  ![16, 0, v2282.toNat]
def k1_off18 (k1_t1 : Fin k1_t1_loop.trips) : Fin 3 → Nat :=
  let c17 : Index := 17#32
  let c0_787 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v2424 : Index := Scalar.indexCast v21
  ![17, 0, v2424.toNat]
def k1_off19 (k1_t1 : Fin k1_t1_loop.trips) : Fin 3 → Nat :=
  let c18 : Index := 18#32
  let c0_833 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v2566 : Index := Scalar.indexCast v21
  ![18, 0, v2566.toNat]
def k1_off20 (k1_t1 : Fin k1_t1_loop.trips) : Fin 3 → Nat :=
  let c19 : Index := 19#32
  let c0_879 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v2708 : Index := Scalar.indexCast v21
  ![19, 0, v2708.toNat]
def k1_off21 (k1_t1 : Fin k1_t1_loop.trips) : Fin 3 → Nat :=
  let c20 : Index := 20#32
  let c0_925 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v2850 : Index := Scalar.indexCast v21
  ![20, 0, v2850.toNat]
def k1_off22 (k1_t1 : Fin k1_t1_loop.trips) : Fin 3 → Nat :=
  let c21 : Index := 21#32
  let c0_971 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v2992 : Index := Scalar.indexCast v21
  ![21, 0, v2992.toNat]
def k1_off23 (k1_t1 : Fin k1_t1_loop.trips) : Fin 3 → Nat :=
  let c22 : Index := 22#32
  let c0_1017 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v3134 : Index := Scalar.indexCast v21
  ![22, 0, v3134.toNat]
def k1_off24 (k1_t1 : Fin k1_t1_loop.trips) : Fin 3 → Nat :=
  let c23 : Index := 23#32
  let c0_1063 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c128_i32 : BitVec 32 := 128#32
  let v20 : BitVec 32 := Scalar.muli v19 c128_i32
  let v21 : BitVec 32 := v20
  let v3276 : Index := Scalar.indexCast v21
  ![23, 0, v3276.toNat]
def k1_mult2 (k1_t1 : Fin k1_t1_loop.trips) : BitVec 32 :=
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c4096_i32 : BitVec 32 := 4096#32
  let v3616 : BitVec 32 := Scalar.muli v19 c4096_i32
  v3616
def k1_off25 (k1_t1 : Fin k1_t1_loop.trips) : Fin 2 → Nat :=
  let c0_1240 : Index := 0#32
  let c0_i32_7 : BitVec 32 := 0#32
  let c0_i32_3 : BitVec 32 := 0#32
  let c1_i32_4 : BitVec 32 := 1#32
  let arg6 : BitVec 32 := Scf.iv c0_i32_3 c1_i32_4 k1_t1
  let c1_i32_6 : BitVec 32 := 1#32
  let v18 : BitVec 32 := Scalar.muli arg6 c1_i32_6
  let v19 : BitVec 32 := Scalar.addi c0_i32_7 v18
  let c4096_i32 : BitVec 32 := 4096#32
  let v3616 : BitVec 32 := Scalar.muli v19 c4096_i32
  let v3617 : BitVec 32 := v3616
  let v3619 : Index := Scalar.indexCast v3617
  ![0, v3619.toNat]
def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S3x24x2x8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S24x32x2048 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x65536 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
abbrev S3x64x2x128 : Shape := ⟨4, ![3, 64, 2, 128]⟩
abbrev S3x64x1x128 : Shape := ⟨4, ![3, 64, 1, 128]⟩
abbrev S1x8x2x128 : Shape := ⟨4, ![1, 8, 2, 128]⟩
abbrev S1x8x1x128 : Shape := ⟨4, ![1, 8, 1, 128]⟩
abbrev S1x64x2x128 : Shape := ⟨4, ![1, 64, 2, 128]⟩
abbrev S1x64x1x128 : Shape := ⟨4, ![1, 64, 1, 128]⟩
  | .local _ .vmem, ⟨9, _⟩ => ⟨S3x64x2x128, .bf16⟩
variable {F : FTy → Type} [FloatOps F]
-- ==== ReferenceIdeal.lean ====
abbrev S3x960 : Shape := ⟨2, ![3, 960]⟩
abbrev S24x256x40 : Shape := ⟨3, ![24, 256, 40]⟩
abbrev S131072x24x32 : Shape := ⟨3, ![131072, 24, 32]⟩
abbrev S3x24x40 : Shape := ⟨3, ![3, 24, 40]⟩
abbrev S3x24x1x40 : Shape := ⟨4, ![3, 24, 1, 40]⟩
abbrev S1x24x256x40 : Shape := ⟨4, ![1, 24, 256, 40]⟩
abbrev S3x24x256x40 : Shape := ⟨4, ![3, 24, 256, 40]⟩
abbrev S_ : Shape := ⟨0, ![]⟩
abbrev S3x24x256 : Shape := ⟨3, ![3, 24, 256]⟩
abbrev S24x131072x32 : Shape := ⟨3, ![24, 131072, 32]⟩
abbrev S1x24x4194304 : Shape := ⟨3, ![1, 24, 4194304]⟩
abbrev S24x4194304x1 : Shape := ⟨3, ![24, 4194304, 1]⟩
abbrev S3x24x4194304 : Shape := ⟨3, ![3, 24, 4194304]⟩
abbrev S3x4194304 : Shape := ⟨2, ![3, 4194304]⟩

abbrev nBuf : Space → Nat
  | .hbm => 28
  | .vmem => 0
  | .smem => 0
  | _ => 0

abbrev bufTy : (tb : Table) → Fin (tcTables nBuf tb) → BufTy
  | .hbm, ⟨0, _⟩ => ⟨S3x960, .bf16⟩
  | .hbm, ⟨1, _⟩ => ⟨S24x256x40, .f32⟩
  | .hbm, ⟨2, _⟩ => ⟨S131072x24x32, .i8⟩
  | .hbm, ⟨3, _⟩ => ⟨S3x960, .f32⟩
  | .hbm, ⟨4, _⟩ => ⟨S3x24x40, .f32⟩
  | .hbm, ⟨5, _⟩ => ⟨S3x24x1x40, .f32⟩
  | .hbm, ⟨6, _⟩ => ⟨S1x24x256x40, .f32⟩
  | .hbm, ⟨7, _⟩ => ⟨S3x24x256x40, .f32⟩
  | .hbm, ⟨8, _⟩ => ⟨S3x24x256x40, .f32⟩
  | .hbm, ⟨9, _⟩ => ⟨S3x24x256x40, .f32⟩
  | .hbm, ⟨10, _⟩ => ⟨S3x24x256x40, .f32⟩
  | .hbm, ⟨11, _⟩ => ⟨S_, .f32⟩
  | .hbm, ⟨12, _⟩ => ⟨S3x24x256, .f32⟩
  | .hbm, ⟨13, _⟩ => ⟨S131072x24x32, .i32⟩
  | .hbm, ⟨14, _⟩ => ⟨S24x131072x32, .i32⟩
  | .hbm, ⟨15, _⟩ => ⟨S1x24x4194304, .i32⟩
  | .hbm, ⟨16, _⟩ => ⟨S_, .i32⟩
  | .hbm, ⟨17, _⟩ => ⟨S1x24x4194304, .i32⟩
  | .hbm, ⟨18, _⟩ => ⟨S1x24x4194304, .i1⟩
  | .hbm, ⟨19, _⟩ => ⟨S_, .i32⟩
  | .hbm, ⟨20, _⟩ => ⟨S1x24x4194304, .i32⟩
  | .hbm, ⟨21, _⟩ => ⟨S1x24x4194304, .i32⟩
  | .hbm, ⟨22, _⟩ => ⟨S1x24x4194304, .i32⟩
  | .hbm, ⟨23, _⟩ => ⟨S24x4194304x1, .i32⟩
  | .hbm, ⟨24, _⟩ => ⟨S3x24x4194304, .f32⟩
  | .hbm, ⟨25, _⟩ => ⟨S_, .f32⟩
  | .hbm, ⟨26, _⟩ => ⟨S3x4194304, .f32⟩
  | .hbm, ⟨27, _⟩ => ⟨S3x4194304, .bf16⟩
  | _, _ => ⟨S3x960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Proof.Bits.Region0.lean ====
/-
  The table kernel: what its one grid point leaves in the table, its triple, and the region's proof data.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The resource algebra. -/
local notation "𝕄" => MT nD τ sig Unit (Elt F) ℕ (UR sig nD τ) ℕ

/-! ## The rectangles the body loads and stores -/

abbrev r0_0 : Rect S3x24x40x1 := Rect.unit (s := S3x24x40x1) ![0, 0, 0, 0] S1x24x40x1.size inb_S3x24x40x1_S1x24x40x1_0_0_0_0
abbrev r0_1 : Rect S24x40x256 := Rect.unit (s := S24x40x256) ![0, 0, 0] S24x40x256.size inb_S24x40x256_S24x40x256_0_0_0
abbrev r0_2 : Rect S3x24x256 := Rect.unit (s := S3x24x256) ![0, 0, 0] S1x24x256.size inb_S3x24x256_S1x24x256_0_0_0
abbrev r0_3 : Rect S3x24x40x1 := Rect.unit (s := S3x24x40x1) ![1, 0, 0, 0] S1x24x40x1.size inb_S3x24x40x1_S1x24x40x1_1_0_0_0
abbrev r0_4 : Rect S3x24x256 := Rect.unit (s := S3x24x256) ![1, 0, 0] S1x24x256.size inb_S3x24x256_S1x24x256_1_0_0
abbrev r0_5 : Rect S3x24x40x1 := Rect.unit (s := S3x24x40x1) ![2, 0, 0, 0] S1x24x40x1.size inb_S3x24x40x1_S1x24x40x1_2_0_0_0
abbrev r0_6 : Rect S3x24x256 := Rect.unit (s := S3x24x256) ![2, 0, 0] S1x24x256.size inb_S3x24x256_S1x24x256_2_0_0

/-! ## What the body leaves in each output window's buffer -/

/-- Window 2's staging buffer after the body, from the input windows' blocks: its 3 stores as pieces, LAST
    FIRST (the payloads as the program's own text gives them). -/
def out0_2 (x0 : Vec F S3x24x40x1 .bf16) (x1 : Vec F S24x40x256 .f32) : Vec F S3x24x256 .f32 :=
  View.canon [⟨r0_6, k0_pay1 (k0_pay4 (View.ld x0 r0_5)) (k0_pay5 (View.ld x1 r0_1))⟩,
    ⟨r0_4, k0_pay3 (View.ld x0 r0_3) (View.ld x1 r0_1)⟩,
    ⟨r0_2, k0_pay2 (View.ld x0 r0_0) (View.ld x1 r0_1)⟩]

/-- Its stores tile the buffer (checked by evaluation), so they cover it. -/
theorem cover0_2 (p0 : Vec F S1x24x256 .f32) (p1 : Vec F S1x24x256 .f32) (p2 : Vec F S1x24x256 .f32) (y : S3x24x256.Idx) :
    ∃ pc ∈ ([⟨r0_6, p0⟩, ⟨r0_4, p1⟩, ⟨r0_2, p2⟩] : List (View.Piece (Elt F) S3x24x256 .f32)), y ∈ pc.1.set :=
  View.cover_of_tiled [⟨r0_6, p0⟩, ⟨r0_4, p1⟩, ⟨r0_2, p2⟩] S1x24x256.size (by rfl) y

set_option maxHeartbeats 1000000 in
/-- The table kernel's body on whole memrefs: the inputs stay as they were, the output holds `out0_2` of the inputs. -/
theorem sound_kernel0 (c : Dev nD) (E : Set ℕ) (arg0 : Memref sig .tc .vmem S3x24x40x1 .bf16) (harg0 : arg0.IsWhole) (arg1 : Memref sig .tc .vmem S24x40x256 .f32) (harg1 : arg1.IsWhole) (arg2 : Memref sig .tc .vmem S3x24x256 .f32) (harg2 : arg2.IsWhole)
    (x0 : Vec F S3x24x40x1 .bf16) (x1 : Vec F S24x40x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0_lut arg0 harg0 arg1 harg1 arg2 harg2) K := by
  simp only [cc0_lut_eq_skeleton]; unfold cc0_lut_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

variable (W : Dev nD → Valuation τ sig (Elt F))

/-- Window `w`'s block at point `t`, read off its array's contents at the region's entry. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The region's proof data, entered with the buffers at `W`: each input's staging buffer holds its block before and after the
    body, the output's holds what the body computes from the blocks; the rest of the scoped memory is untouched between points. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => out0_2 (blk0 W c 0 t) (blk0 W c 1 t)
  Φ _ := Pipeline.scopedRest spec0 c
  q _ := fullShare
  owed _ := 0

theorem A0_eq (c : Dev nD) (w : Fin cfg0.W) : (dat0 W c).A w = W c (Proc.devRef .tc (Pipeline.arrRef spec0 w)) := by
  dsimp only [dat0]

theorem after0_0 (c : Dev nD) (t : Fin cfg0.N) : (dat0 W c).after 0 t = blk0 W c 0 t := by dsimp only [dat0]
theorem after0_1 (c : Dev nD) (t : Fin cfg0.N) : (dat0 W c).after 1 t = blk0 W c 1 t := by dsimp only [dat0]
theorem after0_2 (c : Dev nD) (t : Fin cfg0.N) : (dat0 W c).after 2 t = out0_2 (blk0 W c 0 t) (blk0 W c 1 t) := by dsimp only [dat0]

/-! Each input's staging buffer holds its block at every point, fetched there or not. -/

theorem before0_0 (c : Dev nD) (t : Fin cfg0.N) (d) : (dat0 W c).before 0 t d = blk0 W c 0 t :=
  ((dat0 W c).before_in_eq_fetched 0 rfl (fun _ => rfl) (fun _ _ _ => rfl)
    (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 W c).before 1 t d = blk0 W c 1 t :=
  ((dat0 W c).before_in_eq_fetched 1 rfl (fun _ => rfl) (fun _ _ _ => rfl)
    (fun t => by rw [after0_1]; unfold Dat.blockOf blk0; rw [A0_eq]; try rfl) t d).trans
    (by unfold Dat.fetched Dat.blockOf blk0; rw [A0_eq]; try rfl)

/-- What the body is called with at point `t`, window by window, -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))

/-- and what it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1]
  rw [show (dat0 W c).Φ t.succ = (dat0 W c).Φ t.castSucc from rfl,
    show (dat0 W c).owesAt () t.succ = (dat0 W c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (blk0 W c 0 t) (blk0 W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots. -/
theorem defs₀_row0 (t : Fin cfg0.N) : defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.Kernel.Own

end
-- ==== Proof.Bits.Trip.lean ====
/-
  ONE trip of the distance kernel's loop at a symbolic trip: what it stores into the output block, as a list of pieces
  over the contents of the table, the selection matrix and the codes.
-/
module

public import proofs.«01_k».proof.Proof.Gen.Kernel.Loops
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The resource algebra. -/
local notation "𝕄" => MT nD τ sig Unit (Elt F) ℕ (UR sig nD τ) ℕ

/-- Memref `M`'s buffer on core `c`: its contents type, and it held whole at `f`. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (i : grid1.Coords)
  (M1 : Memref sig .tc .vmem S3x24x2x8x128 .f32) (h1 : M1.IsWhole) (M2 : Memref sig .tc .vmem S32x128 .bf16) (h2 : M2.IsWhole)
  (M3 : Memref sig .tc .vmem S24x32x2048 .i8) (h3 : M3.IsWhole) (M4 : Memref sig .tc .vmem S3x65536 .bf16) (h4 : M4.IsWhole)
  (M5 : Memref sig .tc .vmem S3x64x128 .i32) (h5 : M5.IsWhole)
  (f1 : Bf (F := F) M1) (f2 : Bf (F := F) M2) (f3 : Bf (F := F) M3)

/-- One trip: the pieces it stores into the output block, and the region's run leaving them there. -/
@[irreducible] def trip (k : Fin k1_t1_loop.trips) :
    { L : Bf (F := F) M5 → List (View.Piece (Elt F) S3x65536 .bf16) //
      ∀ (f4 : Bf (F := F) M4) (f5 : Bf (F := F) M5),
        iprop(pt c M1 f1 ∗ pt c M2 f2 ∗ pt c M3 f3 ∗ pt c M4 f4 ∗ pt c M5 f5)
        ⊢ wp frame (wpE (defs₀ (F := F)) Variants.none c none) Set.univ (k1_t1_body i M1 h1 M2 h2 M3 h3 M4 h4 M5 h5 k ())
            (fun _ => iprop(pt c M1 f1 ∗ pt c M2 f2 ∗ pt c M3 f3 ∗ pt c M4 (M4.view.writes (Elt F) f4 (L f5)) ∗ ∃ g5, pt c M5 g5)) } := by
  refine ⟨?_, fun f4 f5 => ?run⟩
  case run =>
    unfold k1_t1_body
    iintro ⟨H1, H2, H3, H4, H5⟩
    sl_exec_parts
    sl_step
    sl_close

end Cert.Kernel.Own

end
-- ==== Proof.Bits.Body1.lean ====
/-
  The distance kernel's body over its whole grid point: the loop by its invariant, and what the body leaves in the
  output block as a function of the blocks of its three inputs alone.
-/
module

public import proofs.«01_k».proof.Proof.Bits.Trip
public import proofs.«01_k».proof.Proof.Gen.Kernel.Points
public import Idealize.ShloMosaic.Lib.Pipeline.FrameBody
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The resource algebra. -/
local notation "𝕄" => MT nD τ sig Unit (Elt F) ℕ (UR sig nD τ) ℕ

/-- The loop makes sixteen trips. -/
theorem trips_eq : k1_t1_loop.trips = 16 := by decide +kernel

/-! ## The scratch is read only where this trip wrote it -/

/-- Whether the pieces `L` of the scratch hold, for slab `b`, the eight interleaved row groups that make up the slab. -/
def rowsChk (L : List (View.Piece (Elt F) S3x64x128 .i32)) (b : ℕ) : Bool :=
  (List.range 2).all fun half => (List.range 4).all fun a => L.any fun p =>
    decide (p.1.off = ![b, 16 * a + half, 0] ∧ p.1.size = S1x8x128.size ∧ p.1.stride = ![1, 2, 1])

/-- Such pieces hold every element of slab `b`. -/
theorem rows_cover (L : List (View.Piece (Elt F) S3x64x128 .i32)) (b : ℕ) (h : rowsChk L b = true) (y : S3x64x128.Idx)
    (hy : (y 0 : ℕ) = b) : ∃ p ∈ L, y ∈ p.1.set := by
  have h1 : (y 1 : ℕ) < 64 := (y 1).isLt
  have h2 : (y 2 : ℕ) < 128 := (y 2).isLt
  simp only [rowsChk, List.all_eq_true, List.any_eq_true, List.mem_range, decide_eq_true_eq] at h
  obtain ⟨p, hp, hoff, hsz, hst⟩ := h ((y 1 : ℕ) % 2) (by omega) ((y 1 : ℕ) / 16) (by omega)
  refine ⟨p, hp, p.1.mem_set.mpr fun a => ?_⟩
  rw [hoff, hsz, hst]
  fin_cases a
  · exact ⟨0, by decide, by show (y 0 : ℕ) = b + 1 * 0; omega⟩
  · refine ⟨(y 1 : ℕ) % 16 / 2, ?_, ?_⟩
    · show (y 1 : ℕ) % 16 / 2 < 8; omega
    · show (y 1 : ℕ) = 16 * ((y 1 : ℕ) / 16) + (y 1 : ℕ) % 2 + 2 * ((y 1 : ℕ) % 16 / 2); omega
  · exact ⟨(y 2 : ℕ), h2, by show (y 2 : ℕ) = 0 + 1 * (y 2 : ℕ); omega⟩

/-- So a load of slab `b` after such stores does not depend on what the scratch held before them. -/
theorem slab_indep (M5 : Memref sig .tc .vmem S3x64x128 .i32) (f g : Bf (F := F) M5)
    (L : List (View.Piece (Elt F) S3x64x128 .i32)) (b : ℕ) (h : rowsChk L b = true)
    (inb : ∀ a, (![b, 0, 0] : Fin 3 → ℕ) a + S1x64x128.size a ≤ S3x64x128.size a) :
    View.readAt (Elt F) M5.view (Rect.unit (s := S3x64x128) ![b, 0, 0] S1x64x128.size inb).toLoadRect (M5.view.writes (Elt F) f L)
      = View.readAt (Elt F) M5.view (Rect.unit (s := S3x64x128) ![b, 0, 0] S1x64x128.size inb).toLoadRect (M5.view.writes (Elt F) g L) :=
  funext fun j => by
    have hc := rows_cover L b h ((Rect.unit (s := S3x64x128) ![b, 0, 0] S1x64x128.size inb).toLoadRect.idx j) (by
      have h0 : (j 0 : ℕ) < 1 := (j 0).isLt
      show b + 1 * (j 0 : ℕ) = b
      omega)
    exact (View.read_writes_apply_eq_canon M5.view f _ L hc).trans (View.read_writes_apply_eq_canon M5.view g _ L hc).symm

variable (c : Dev nD) (i : grid1.Coords)
  (M1 : Memref sig .tc .vmem S3x24x2x8x128 .f32) (h1 : M1.IsWhole) (M2 : Memref sig .tc .vmem S32x128 .bf16) (h2 : M2.IsWhole)
  (M3 : Memref sig .tc .vmem S24x32x2048 .i8) (h3 : M3.IsWhole) (M4 : Memref sig .tc .vmem S3x65536 .bf16) (h4 : M4.IsWhole)
  (M5 : Memref sig .tc .vmem S3x64x128 .i32) (h5 : M5.IsWhole)
  (f1 : Bf (F := F) M1) (f2 : Bf (F := F) M2) (f3 : Bf (F := F) M3)

/-- The tile trip `k` stores, the scratch holding anything. -/
@[irreducible] def tile (k : Fin k1_t1_loop.trips) : Vec F S3x4096 .bf16 :=
  trip.sl.r_559 M1 M2 M3 M5 f1 f2 f3 k M5.view.junk

/-- One trip stores one tile, the columns `4096 * k` to `4096 * k + 4095` of all rows. -/
theorem trip_eq (k : Fin k1_t1_loop.trips) (f5 : Bf (F := F) M5) :
    (trip c i M1 h1 M2 h2 M3 h3 M4 h4 M5 h5 f1 f2 f3 k).1 f5
      = [⟨Rect.unit (s := S3x65536) (k1_off25 k) S3x4096.size (k1_off25_inb k), tile M1 M2 M3 M5 f1 f2 f3 k⟩] := by
  have e0 : trip.sl.r_551 M1 M2 M3 M5 f1 f2 f3 k f5 = trip.sl.r_551 M1 M2 M3 M5 f1 f2 f3 k M5.view.junk := by
    unfold trip.sl.r_551; rw [slab_indep M5 f5 M5.view.junk _ 0 (by rfl)]
  have e1 : trip.sl.r_555 M1 M2 M3 M5 f1 f2 f3 k f5 = trip.sl.r_555 M1 M2 M3 M5 f1 f2 f3 k M5.view.junk := by
    unfold trip.sl.r_555; rw [slab_indep M5 f5 M5.view.junk _ 1 (by rfl)]
  have e2 : trip.sl.r_559 M1 M2 M3 M5 f1 f2 f3 k f5 = trip.sl.r_559 M1 M2 M3 M5 f1 f2 f3 k M5.view.junk := by
    unfold trip.sl.r_559; rw [slab_indep M5 f5 M5.view.junk _ 2 (by rfl), e0, e1]
  unfold trip tile
  rw [← e2]

/-! ## The pieces of the trips, and the loop -/

/-- The tile of trip `k`, as a piece of the output block. -/
def piece (k : Fin k1_t1_loop.trips) : View.Piece (Elt F) S3x65536 .bf16 :=
  ⟨Rect.unit (s := S3x65536) (k1_off25 k) S3x4096.size (k1_off25_inb k), tile M1 M2 M3 M5 f1 f2 f3 k⟩

/-- The tiles of the trips before `k`, last first. -/
def pb : ℕ → List (View.Piece (Elt F) S3x65536 .bf16)
  | 0 => []
  | k + 1 => (if h : k < k1_t1_loop.trips then [piece M1 M2 M3 M5 f1 f2 f3 ⟨k, h⟩] else []) ++ pb k

theorem pb_succ (k : Fin k1_t1_loop.trips) :
    pb M1 M2 M3 M5 f1 f2 f3 (k.val + 1) = [piece M1 M2 M3 M5 f1 f2 f3 k] ++ pb M1 M2 M3 M5 f1 f2 f3 k.val := by
  rw [pb.eq_2, dif_pos k.isLt]

theorem mem_pb (k : Fin k1_t1_loop.trips) : ∀ n : ℕ, k.val < n → piece M1 M2 M3 M5 f1 f2 f3 k ∈ pb M1 M2 M3 M5 f1 f2 f3 n
  | n + 1, h => by
    rw [pb.eq_2]
    rcases Nat.lt_or_ge k.val n with hk | hk
    · exact List.mem_append_right _ (mem_pb k n hk)
    · have e : k.val = n := by omega
      subst e
      rw [dif_pos k.isLt]
      exact List.mem_append_left _ List.mem_cons_self

/-- All sixteen tiles cover the output block. -/
theorem pb_cover (y : S3x65536.Idx) : ∃ p ∈ pb M1 M2 M3 M5 f1 f2 f3 k1_t1_loop.trips, y ∈ p.1.set := by
  have h0 : (y 0 : ℕ) < 3 := (y 0).isLt
  have hy : (y 1 : ℕ) < 65536 := (y 1).isLt
  have hk : (y 1 : ℕ) / 4096 < k1_t1_loop.trips := by rw [trips_eq]; omega
  refine ⟨_, mem_pb M1 M2 M3 M5 f1 f2 f3 ⟨(y 1 : ℕ) / 4096, hk⟩ _ hk, ?_⟩
  refine (Rect.mem_set_unit (inb := k1_off25_inb _)).mpr fun a => ?_
  rw [k1_off25_eq]
  fin_cases a
  · exact ⟨Nat.zero_le _, by show (y 0 : ℕ) < 0 + 3; omega⟩
  · exact ⟨by show 4096 * ((y 1 : ℕ) / 4096) ≤ (y 1 : ℕ); omega, by show (y 1 : ℕ) < 4096 * ((y 1 : ℕ) / 4096) + 4096; omega⟩

set_option warn.classDefReducibility false in
/-- The loop by its invariant: before trip `k` the output block holds the tiles of the trips before `k` over what it held
    at entry, the scratch holds something. -/
@[sl_loop] def loopInv_k1_t1 (f4 : Bf (F := F) M4) :
    LoopInvTy_k1_t1 (F := F) Unit ℕ (UR sig nD τ) ℕ Variants.none c none Set.univ i M1 h1 M2 h2 M3 h3 M4 h4 M5 h5 where
  inv k _ := iprop(pt c M1 f1 ∗ pt c M2 f2 ∗ pt c M3 f3
    ∗ (∃ f, pt c M4 f ∗ ⌜f = M4.view.writes (Elt F) f4 (pb M1 M2 M3 M5 f1 f2 f3 k)⌝) ∗ ∃ g, pt c M5 g)
  step k acc := by
    iintro ⟨H1, H2, H3, ⟨%g4, H4, %e4⟩, ⟨%g5, H5⟩⟩
    iapply (wp_wand_r Idealize.ShloMosaic.frame (wpE (defs₀ (F := F)) Variants.none (c : Thread nD τ) none) Set.univ)
    isplitl [H1 H2 H3 H4 H5]
    · iapply ((trip c i M1 h1 M2 h2 M3 h3 M4 h4 M5 h5 f1 f2 f3 k).2 g4 g5)
      isplitl [H1]; · iexact H1
      isplitl [H2]; · iexact H2
      isplitl [H3]; · iexact H3
      isplitl [H4]; · iexact H4
      iexact H5
    · iintro %_ ⟨H1, H2, H3, H4, H5⟩
      isplitl [H1]; · iexact H1
      isplitl [H2]; · iexact H2
      isplitl [H3]; · iexact H3
      rw [pb_succ, trip_eq]
      isplitl [H4]
      · iexists _; isplitl [H4]; · iexact H4
        ipureintro; rw [e4, ← View.writes_append]; rfl
      iexact H5

/-- The body on whole memrefs at contents `f1`, `f2`, `f3`: it leaves the sixteen tiles in the output block. -/
theorem sound_body_raw (f4 : Bf (F := F) M4) (f5 : Bf (F := F) M5) (K : PUnit → sProp 𝕄) :
    iprop(pt c M1 f1 ∗ pt c M2 f2 ∗ pt c M3 f3 ∗ pt c M4 f4 ∗ pt c M5 f5
        ∗ (iprop(pt c M1 f1 ∗ pt c M2 f2 ∗ pt c M3 f3
            ∗ pt c M4 (M4.view.writes (Elt F) f4 (pb M1 M2 M3 M5 f1 f2 f3 k1_t1_loop.trips)) ∗ ∃ g, pt c M5 g) -∗ K ⟨⟩))
      ⊢ wp frame (wpE (defs₀ (F := F)) Variants.none c none) Set.univ (cc1_dist i M1 h1 M2 h2 M3 h3 M4 h4 M5 h5) K := by
  simp only [cc1_dist_eq_skeleton]; unfold cc1_dist_skel
  iintro ⟨H1, H2, H3, H4, H5, Hk⟩
  sl_exec
  sl_step
  iapply Hk
  isplitl [H1]; · iexact H1
  isplitl [H2]; · iexact H2
  isplitl [H3]; · iexact H3
  isplitl [H4]; · iexact H4
  iexists _; iexact H5

/-- What the body leaves in the output block, from what the input blocks read. -/
def out1 (x1 : Vec F S3x24x2x8x128 .f32) (x2 : Vec F S32x128 .bf16) (x3 : Vec F S24x32x2048 .i8) : Vec F S3x65536 .bf16 :=
  View.canon (pb M1 M2 M3 M5 (h1.unread x1) (h2.unread x2) (h3.unread x3) k1_t1_loop.trips)

/-- The body's triple over what the memrefs read. -/
theorem sound_kernel1 (x1 : Vec F S3x24x2x8x128 .f32) (x2 : Vec F S32x128 .bf16) (x3 : Vec F S24x32x2048 .i8) (K : PUnit → sProp 𝕄) :
    iprop(owns (c : Thread nD τ) M1 fullShare x1 ∗ owns (c : Thread nD τ) M2 fullShare x2 ∗ owns (c : Thread nD τ) M3 fullShare x3
        ∗ (∃ d, owns (c : Thread nD τ) M4 fullShare d) ∗ (∃ g, pt (F := F) c M5 g)
        ∗ (iprop(owns (c : Thread nD τ) M1 fullShare x1 ∗ owns (c : Thread nD τ) M2 fullShare x2 ∗ owns (c : Thread nD τ) M3 fullShare x3
            ∗ owns (c : Thread nD τ) M4 fullShare (out1 M1 h1 M2 h2 M3 h3 M5 x1 x2 x3) ∗ (∃ g, pt (F := F) c M5 g)) -∗ K ⟨⟩))
      ⊢ wp frame (wpE (defs₀ (F := F)) Variants.none c none) Set.univ (cc1_dist i M1 h1 M2 h2 M3 h3 M4 h4 M5 h5) K := by
  unfold owns
  iintro ⟨⟨%f1, %hf1, H1⟩, ⟨%f2, %hf2, H2⟩, ⟨%f3, %hf3, H3⟩, ⟨%d, %f4, -, H4⟩, ⟨%f5, H5⟩, Hk⟩
  obtain rfl := h1.eq_unread hf1
  obtain rfl := h2.eq_unread hf2
  obtain rfl := h3.eq_unread hf3
  iapply (sound_body_raw c i M1 h1 M2 h2 M3 h3 M4 h4 M5 h5 (h1.unread x1) (h2.unread x2) (h3.unread x3) f4 f5 K)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H1]
  · iexists (h1.unread x1); isplitr; · ipureintro; exact hf1
    iexact H1
  isplitl [H2]
  · iexists (h2.unread x2); isplitr; · ipureintro; exact hf2
    iexact H2
  isplitl [H3]
  · iexists (h3.unread x3); isplitr; · ipureintro; exact hf3
    iexact H3
  isplitl [H4]
  · iexists _; isplitr
    swap; · iexact H4
    ipureintro
    exact View.read_writes_eq_canon _ _ _ (pb_cover M1 M2 M3 M5 _ _ _)
  iexact H5

end Cert.Kernel.Own

end
-- ==== Proof.Bits.Region1.lean ====
/-
  The distance kernel's region: what each grid point leaves in its output block, and the region's proof data.
-/
module

public import proofs.«01_k».proof.Proof.Gen.Kernel.Launch
public import proofs.«01_k».proof.Proof.Gen.Kernel.Skeleton
public import proofs.«01_k».proof.Proof.Gen.Kernel.Points
public import proofs.«01_k».proof.Proof.Bits.Body1
public import Idealize.ShloMosaic.Lib.Pipeline.FrameBody
public import Idealize.ShloMosaic.Lib.Ring
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The resource algebra. -/
local notation "𝕄" => MT nD τ sig Unit (Elt F) ℕ (UR sig nD τ) ℕ

/-- What the body leaves in the output block at point `t`, from the blocks of its inputs. -/
def outAt1 (t : Fin cfg1.N) (x1 : Vec F S3x24x2x8x128 .f32) (x2 : Vec F S32x128 .bf16) (x3 : Vec F S24x32x2048 .i8) : Vec F S3x65536 .bf16 :=
  out1 (st1_0 t) (hstage1_0 ((cfg1.slots t 0).cast nbuf1_0)) (st1_1 t) (hstage1_1 ((cfg1.slots t 1).cast nbuf1_1))
    (st1_2 t) (hstage1_2 ((cfg1.slots t 2).cast nbuf1_2)) (Memref.whole cc1_scratch0) x1 x2 x3

/-- The scratch buffer held whole, as the scoped memory lists it. -/
theorem pt_scratch (c : Dev nD) (f : Bf (F := F) (Memref.whole cc1_scratch0)) :
    (pt c (Memref.whole cc1_scratch0) f : sProp 𝕄) = (((c : Thread nD τ).loc cc1_scratch0) ↦{fullShare} f) := by
  unfold pt
  rw [show (Memref.whole cc1_scratch0).view.set = Finset.univ from View.set_whole _]

variable (W : Dev nD → Valuation τ sig (Elt F))

/-- Window `w`'s block at point `t`, read off its array's contents at the region's entry. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The region's proof data, entered with the buffers at `W`: each input's staging buffer holds its block before and after the
    body, the output's holds what the body computes from the blocks; the rest of the scoped memory is untouched between points. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => outAt1 t (blk1 W c 0 t) (blk1 W c 1 t) (blk1 W c 2 t)
  Φ _ := Pipeline.scopedRest spec1 c
  q _ := fullShare
  owed _ := 0

theorem A1_eq (c : Dev nD) (w : Fin cfg1.W) : (dat1 W c).A w = W c (Proc.devRef .tc (Pipeline.arrRef spec1 w)) := by
  dsimp only [dat1]

theorem after1_0 (c : Dev nD) (t : Fin cfg1.N) : (dat1 W c).after 0 t = blk1 W c 0 t := by dsimp only [dat1]
theorem after1_1 (c : Dev nD) (t : Fin cfg1.N) : (dat1 W c).after 1 t = blk1 W c 1 t := by dsimp only [dat1]
theorem after1_2 (c : Dev nD) (t : Fin cfg1.N) : (dat1 W c).after 2 t = blk1 W c 2 t := by dsimp only [dat1]
theorem after1_3 (c : Dev nD) (t : Fin cfg1.N) : (dat1 W c).after 3 t = outAt1 t (blk1 W c 0 t) (blk1 W c 1 t) (blk1 W c 2 t) := by dsimp only [dat1]

/-! Each input's staging buffer holds its block at every point, fetched there or not. -/

theorem before1_0 (c : Dev nD) (t : Fin cfg1.N) (d) : (dat1 W c).before 0 t d = blk1 W c 0 t :=
  ((dat1 W c).before_in_eq_fetched 0 rfl (fun _ => rfl) (fun _ _ _ => rfl)
    (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 W c).before 1 t d = blk1 W c 1 t :=
  ((dat1 W c).before_in_eq_fetched 1 rfl (fun _ => rfl) (fun _ _ _ => rfl)
    (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 W c).before 2 t d = blk1 W c 2 t :=
  ((dat1 W c).before_in_eq_fetched 2 rfl (fun _ => rfl) (fun _ _ _ => rfl)
    (fun t => by rw [after1_2]; unfold Dat.blockOf blk1; rw [A1_eq]; try rfl) t d).trans
    (by unfold Dat.fetched Dat.blockOf blk1; rw [A1_eq]; try rfl)

/-- What the body is called with at point `t`, window by window, -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d)))

/-- and what it returns. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t))

/-- The body at any point: the scratch is taken out of the scoped memory for the body and put back. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2]
  rw [show (dat1 W c).Φ t.succ = (dat1 W c).Φ t.castSucc from rfl,
    show (dat1 W c).owesAt () t.succ = (dat1 W c).owesAt () t.castSucc from rfl,
    after1_0, after1_1, after1_2, after1_3, show (dat1 W c).Φ t.castSucc = Pipeline.scopedRest spec1 c from rfl, scopedRest1_eq]
  iintro ⟨⟨Ha, Hb, Hc, ⟨%fs, Hs⟩⟩, Ho, ⟨%d0, H0⟩, ⟨%d1, H1⟩, ⟨%d2, H2⟩, ⟨%d3, H3⟩⟩
  iapply (sound_kernel1 c (grid1.coords t) _ _ _ _ _ _ _ _ (Memref.whole cc1_scratch0) (Memref.isWhole_whole _) (blk1 W c 0 t) (blk1 W c 1 t) (blk1 W c 2 t) _)
  isplitl [H0]; · iexact H0
  isplitl [H1]; · iexact H1
  isplitl [H2]; · iexact H2
  isplitl [H3]; · iexists _; iexact H3
  isplitl [Hs]; · iexists fs; rw [pt_scratch]; iexact Hs
  iintro ⟨H0, H1, H2, H3, ⟨%gs, Hs⟩⟩
  isplitl [Ha Hb Hc Hs]
  · isplitl [Ha]; · iexact Ha
    isplitl [Hb]; · iexact Hb
    isplitl [Hc]; · iexact Hc
    iexists gs; rw [← pt_scratch]; iexact Hs
  isplitl [Ho]; · iexact Ho
  isplitl [H0]; · iexact H0
  isplitl [H1]; · iexact H1
  isplitl [H2]; · iexact H2
  iexact H3

/-- The body table's row at point `t`'s slots. -/
theorem defs₀_row1 (t : Fin cfg1.N) : defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end Cert.Kernel.Own

end
-- ==== Proof.Bits.Run.lean ====
/-
  The whole program's run: both regions between their host operations, from any memory with zero counters to the end, with
  what the two results hold.
-/
module

public import proofs.«01_k».proof.Proof.Bits.Region0
public import proofs.«01_k».proof.Proof.Bits.Region1
public import proofs.«01_k».proof.Proof.Gen.Kernel.Regions
public import Idealize.ShloMosaic.Lib.Pipeline.RegionArraysS

@[expose] public section

set_option maxRecDepth 16384

noncomputable section

namespace Cert.Kernel.Own

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [BitOps F]

/-- The resource algebra. -/
local notation "𝕄" => MT nD τ sig Unit (Elt F) ℕ (UR sig nD τ) ℕ

variable (m : (ℓ : Loc nD τ sig) → Buf (Elt F) ℓ) (ρ : Dev nD → PrngReg)

/-! ## What the regions leave -/

/-- The buffers after the table kernel's region. -/
def outsA : Outs (F := F) := fun _ r c => afterRegion (dat0 (V1 m) c) (V1 m c) (Proc.devRef .tc r)
/-- What each region leaves: the table kernel's region at item 2, the distance kernel's after it. -/
def outs : Outs (F := F)
  | 2, r, c => outsA m 2 r c
  | _, r, c => afterRegion (dat1 (V5 m (outsA m)) c) (V5 m (outsA m) c) (Proc.devRef .tc r)

/-- The buffers at the distance kernel's entry read the table kernel's region alone. -/
theorem V5_outs (c : Dev nD) : V5 m (outs m) c = V5 m (outsA m) c := rfl

/-- Both regions' proof data. -/
def pdats : (p : Fin 2) → (c : Dev nD) → Dat τ (Elt F) Unit ℕ (UR sig nD τ) ℕ (cfgs p) c
  | ⟨0, _⟩, c => dat0 (V1 m) c
  | ⟨1, _⟩, c => dat1 (V5 m (outsA m)) c

/-- After the table kernel's region the buffers are the entry's but for the table. -/
theorem after0 (c : Dev nD) : ∀ b ∈ Pipeline.ucRefs τ sig, afterRegion (dat0 (V1 m) c) (V1 m c) b = V2 m (outs m) c b := by
  intro b hb
  obtain ⟨r, -, rfl⟩ := Finset.mem_map.mp (Finset.mem_filter.mp hb).1
  by_cases h : r = main_v2
  · subst h
    exact (Function.update_self (f := V1 m c) (Proc.devRef .tc main_v2) _).symm
  · refine (Pipeline.afterRegion_keeps (dat0 (V1 m) c) (V1 m c) winFacts0.arr_inj (fun w => A0_eq (V1 m) c w) r (fun w hw => ?_)).trans
      (V2_of m (outs m) c r (by simpa using h)).symm
    revert hw
    fin_cases w
    · exact fun _ => rfl
    · exact fun _ => rfl
    · exact fun hw => absurd hw.symm h

/-- After the distance kernel's region the buffers are the entry's but for the distances. -/
theorem after1 (c : Dev nD) :
    ∀ b ∈ Pipeline.ucRefs τ sig, afterRegion (dat1 (V5 m (outsA m)) c) (V5 m (outsA m) c) b = V6 m (outs m) c b := by
  intro b hb
  obtain ⟨r, -, rfl⟩ := Finset.mem_map.mp (Finset.mem_filter.mp hb).1
  by_cases h : r = main_v11
  · subst h
    exact (Function.update_self (f := V5 m (outs m) c) (Proc.devRef .tc main_v11) _).symm
  · refine (Pipeline.afterRegion_keeps (dat1 (V5 m (outsA m)) c) (V5 m (outsA m) c) winFacts1.arr_inj
      (fun w => A1_eq (V5 m (outsA m)) c w) r (fun w hw => ?_)).trans ((V6_of m (outs m) c r (by simpa using h)).trans (by rw [V5_outs])).symm
    revert hw
    fin_cases w
    · exact fun _ => rfl
    · exact fun _ => rfl
    · exact fun _ => rfl
    · exact fun hw => absurd hw.symm h

/-! ## The regions as segments -/

/-- Nothing is owed: the staging cells' one index is assigned at level zero. -/
abbrev L : GSem nD τ sig → Finset Unit := fun g => if g.1.2 = .tc then {()} else ∅
abbrev lv : GSem nD τ sig → Unit → ℕ := fun _ _ => 0

/-- What rides beside the buffers between items: the core owing nothing. -/
abbrev E : Fin 3 → Dev nD → sProp 𝕄 := fun _ c => iprop(∃ W, owes (c : Thread nD τ) (0 : CellTallies nD τ sig Unit) W)

theorem cut (p : Fin 2) : Pipeline.LevelCut (pcfgs (F := F)) adm () L lv p (fun _ => 0) (fun _ => 0) where
  hι c w s := by show () ∈ (if (Proc.tc : Proc τ) = .tc then ({()} : Finset Unit) else ∅); simp
  hιb c w s := le_refl _
  hD c g i h := absurd h (by show ¬ (0 : ℕ) < 0; omega)

set_option backward.isDefEq.respectTransparency.types false in
/-- The table kernel's region. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl (fun c => (body_obligation0 (V1 m) c).loose)
    (fun _ _ => rfl) (fun _ => rfl) (fun c => (dat0 (V1 m) c).share_full fun _ => rfl)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H; isplitl [H]; · iexact H
      iempintro)
    (fun _ => 0) (cut 0) (fun _ => iprop(emp)) (V1 m) (fun c w => A0_eq (V1 m) c w)

set_option backward.isDefEq.respectTransparency.types false in
/-- The distance kernel's region. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl (fun c => (body_obligation1 (V5 m (outsA m)) c).loose)
    (fun _ _ => rfl) (fun _ => rfl) (fun c => (dat1 (V5 m (outsA m)) c).share_full fun _ => rfl)
    (fun c => by
      show iprop(Pipeline.scopedRest spec1 c ∗ emp) ⊢ Pipeline.scopedRest spec1 c
      iintro ⟨H, -⟩; iexact H)
    (fun c => by
      show Pipeline.scopedRest spec1 c ⊢ iprop(Pipeline.scopedRest spec1 c ∗ emp)
      iintro H; isplitl [H]; · iexact H
      iempintro)
    (fun _ => 0) (cut 1) (fun _ => iprop(emp)) (V5 m (outsA m)) (fun c w => A1_eq (V5 m (outsA m)) c w)

theorem pre0 (c : Dev nD) :
    iprop(StableHlo.held (c : Thread nD τ) (Pipeline.ucRefs τ sig) (V1 m c) ∗ E (F := F) 0 c) ⊢ (R0 m).pre c := by
  refine BIBase.Entails.trans ?_ (RegionSeg.ofHeldIn_pre (p := 0) (pcs := pcfgs (F := F)) (Pipeline.arrRefs_sub_ucRefs spec0 winFacts0.arr_unscoped) c)
  iintro ⟨H, HO⟩
  isplitl [H]; · iexact H
  isplitl [HO]; · iexact HO
  isplitl []; · iempintro
  iempintro

theorem post0 (c : Dev nD) :
    (R0 m).post c ⊢ iprop(StableHlo.held (c : Thread nD τ) (Pipeline.ucRefs τ sig) (V2 m (outs m) c) ∗ E (F := F) 1 c) := by
  rw [← StableHlo.held_congr (c : Thread nD τ) (after0 m c)]
  refine (RegionSeg.ofHeldIn_post (p := 0) (pcs := pcfgs (F := F)) (Pipeline.arrRefs_sub_ucRefs spec0 winFacts0.arr_unscoped) c).trans ?_
  iintro ⟨H, HO, -, -⟩
  isplitl [H]; · iexact H
  iexact HO

theorem pre1 (c : Dev nD) :
    iprop(StableHlo.held (c : Thread nD τ) (Pipeline.ucRefs τ sig) (V5 m (outs m) c) ∗ E (F := F) 1 c) ⊢ (R1 m).pre c := by
  rw [V5_outs]
  refine BIBase.Entails.trans ?_ (RegionSeg.ofHeldIn_pre (p := 1) (pcs := pcfgs (F := F)) (Pipeline.arrRefs_sub_ucRefs spec1 winFacts1.arr_unscoped) c)
  iintro ⟨H, HO⟩
  isplitl [H]; · iexact H
  isplitl [HO]; · iexact HO
  isplitl []; · iempintro
  iempintro

theorem post1 (c : Dev nD) :
    (R1 m).post c ⊢ iprop(StableHlo.held (c : Thread nD τ) (Pipeline.ucRefs τ sig) (V6 m (outs m) c) ∗ E (F := F) 2 c) := by
  rw [← StableHlo.held_congr (c : Thread nD τ) (after1 m c)]
  refine (RegionSeg.ofHeldIn_post (p := 1) (pcs := pcfgs (F := F)) (Pipeline.arrRefs_sub_ucRefs spec1 winFacts1.arr_unscoped) c).trans ?_
  iintro ⟨H, HO, -, -⟩
  isplitl [H]; · iexact H
  iexact HO

/-! ## The frame -/

set_option backward.isDefEq.respectTransparency.types false in
/-- Every weakly fair execution from any memory with zero counters ends, each argument as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame_cond m emb₁ () Variants.none L lv (fun g h => if_neg h) ρ (outs m) (pdats m) 0 (fun _ => iprop(emp))
    (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, -, -⟩, -⟩
      imodintro
      iexists ∅; iexact HO)
    (fun c => .rfl) (R0 m) (pre0 m) (post0 m) (R1 m) (pre1 m) (post1 m)

end Cert.Kernel.Own

end
-- ==== Proof.Ideal.Region0.lean ====
/-
  The table kernel: what its one grid point leaves in the table, its triple, and the region's proof data.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra. -/
local notation "𝕄" => MT nD τ sig Unit (Elt F) ℕ (UR sig nD τ) ℕ

/-! ## The rectangles the body loads and stores -/

abbrev r0_0 : Rect S3x24x40x1 := Rect.unit (s := S3x24x40x1) ![0, 0, 0, 0] S1x24x40x1.size inb_S3x24x40x1_S1x24x40x1_0_0_0_0
abbrev r0_1 : Rect S24x40x256 := Rect.unit (s := S24x40x256) ![0, 0, 0] S24x40x256.size inb_S24x40x256_S24x40x256_0_0_0
abbrev r0_2 : Rect S3x24x256 := Rect.unit (s := S3x24x256) ![0, 0, 0] S1x24x256.size inb_S3x24x256_S1x24x256_0_0_0
abbrev r0_3 : Rect S3x24x40x1 := Rect.unit (s := S3x24x40x1) ![1, 0, 0, 0] S1x24x40x1.size inb_S3x24x40x1_S1x24x40x1_1_0_0_0
abbrev r0_4 : Rect S3x24x256 := Rect.unit (s := S3x24x256) ![1, 0, 0] S1x24x256.size inb_S3x24x256_S1x24x256_1_0_0
abbrev r0_5 : Rect S3x24x40x1 := Rect.unit (s := S3x24x40x1) ![2, 0, 0, 0] S1x24x40x1.size inb_S3x24x40x1_S1x24x40x1_2_0_0_0
abbrev r0_6 : Rect S3x24x256 := Rect.unit (s := S3x24x256) ![2, 0, 0] S1x24x256.size inb_S3x24x256_S1x24x256_2_0_0

/-! ## What the body leaves in each output window's buffer -/

/-- Window 2's staging buffer after the body, from the input windows' blocks: its 3 stores as pieces, LAST
    FIRST (the payloads as the program's own text gives them). -/
def out0_2 (x0 : Vec F S3x24x40x1 .bf16) (x1 : Vec F S24x40x256 .f32) : Vec F S3x24x256 .f32 :=
  View.canon [⟨r0_6, k0_pay1 (k0_pay4 (View.ld x0 r0_5)) (k0_pay5 (View.ld x1 r0_1))⟩,
    ⟨r0_4, k0_pay3 (View.ld x0 r0_3) (View.ld x1 r0_1)⟩,
    ⟨r0_2, k0_pay2 (View.ld x0 r0_0) (View.ld x1 r0_1)⟩]

/-- Its stores tile the buffer (checked by evaluation), so they cover it. -/
theorem cover0_2 (p0 : Vec F S1x24x256 .f32) (p1 : Vec F S1x24x256 .f32) (p2 : Vec F S1x24x256 .f32) (y : S3x24x256.Idx) :
    ∃ pc ∈ ([⟨r0_6, p0⟩, ⟨r0_4, p1⟩, ⟨r0_2, p2⟩] : List (View.Piece (Elt F) S3x24x256 .f32)), y ∈ pc.1.set :=
  View.cover_of_tiled [⟨r0_6, p0⟩, ⟨r0_4, p1⟩, ⟨r0_2, p2⟩] S1x24x256.size (by rfl) y

set_option maxHeartbeats 1000000 in
/-- The table kernel's body on whole memrefs: the inputs stay as they were, the output holds `out0_2` of the inputs. -/
theorem sound_kernel0 (c : Dev nD) (E : Set ℕ) (arg0 : Memref sig .tc .vmem S3x24x40x1 .bf16) (harg0 : arg0.IsWhole) (arg1 : Memref sig .tc .vmem S24x40x256 .f32) (harg1 : arg1.IsWhole) (arg2 : Memref sig .tc .vmem S3x24x256 .f32) (harg2 : arg2.IsWhole)
    (x0 : Vec F S3x24x40x1 .bf16) (x1 : Vec F S24x40x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0_lut arg0 harg0 arg1 harg1 arg2 harg2) K := by
  simp only [cc0_lut_eq_skeleton]; unfold cc0_lut_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

variable (W : Dev nD → Valuation τ sig (Elt F))

/-- Window `w`'s block at point `t`, read off its array's contents at the region's entry. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The region's proof data, entered with the buffers at `W`: each input's staging buffer holds its block before and after the
    body, the output's holds what the body computes from the blocks; the rest of the scoped memory is untouched between points. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => out0_2 (blk0 W c 0 t) (blk0 W c 1 t)
  Φ _ := Pipeline.scopedRest spec0 c
  q _ := fullShare
  owed _ := 0

theorem A0_eq (c : Dev nD) (w : Fin cfg0.W) : (dat0 W c).A w = W c (Proc.devRef .tc (Pipeline.arrRef spec0 w)) := by
  dsimp only [dat0]

theorem after0_0 (c : Dev nD) (t : Fin cfg0.N) : (dat0 W c).after 0 t = blk0 W c 0 t := by dsimp only [dat0]
theorem after0_1 (c : Dev nD) (t : Fin cfg0.N) : (dat0 W c).after 1 t = blk0 W c 1 t := by dsimp only [dat0]
theorem after0_2 (c : Dev nD) (t : Fin cfg0.N) : (dat0 W c).after 2 t = out0_2 (blk0 W c 0 t) (blk0 W c 1 t) := by dsimp only [dat0]

/-! Each input's staging buffer holds its block at every point, fetched there or not. -/

theorem before0_0 (c : Dev nD) (t : Fin cfg0.N) (d) : (dat0 W c).before 0 t d = blk0 W c 0 t :=
  ((dat0 W c).before_in_eq_fetched 0 rfl (fun _ => rfl) (fun _ _ _ => rfl)
    (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 W c).before 1 t d = blk0 W c 1 t :=
  ((dat0 W c).before_in_eq_fetched 1 rfl (fun _ => rfl) (fun _ _ _ => rfl)
    (fun t => by rw [after0_1]; unfold Dat.blockOf blk0; rw [A0_eq]; try rfl) t d).trans
    (by unfold Dat.fetched Dat.blockOf blk0; rw [A0_eq]; try rfl)

/-- What the body is called with at point `t`, window by window, -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))

/-- and what it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1]
  rw [show (dat0 W c).Φ t.succ = (dat0 W c).Φ t.castSucc from rfl,
    show (dat0 W c).owesAt () t.succ = (dat0 W c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (blk0 W c 0 t) (blk0 W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots. -/
theorem defs₀_row0 (t : Fin cfg0.N) : defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.KernelIdeal.Own

end
-- ==== Proof.Ideal.Trip.lean ====
/-
  ONE trip of the distance kernel's loop at a symbolic trip: what it stores into the output block, as a list of pieces
  over the contents of the table, the selection matrix and the codes.
-/
module

public import proofs.«01_k».proof.Proof.Gen.KernelIdeal.Loops
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra. -/
local notation "𝕄" => MT nD τ sig Unit (Elt F) ℕ (UR sig nD τ) ℕ

/-- Memref `M`'s buffer on core `c`: its contents type, and it held whole at `f`. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (i : grid1.Coords)
  (M1 : Memref sig .tc .vmem S3x24x2x8x128 .f32) (h1 : M1.IsWhole) (M2 : Memref sig .tc .vmem S32x128 .bf16) (h2 : M2.IsWhole)
  (M3 : Memref sig .tc .vmem S24x32x2048 .i8) (h3 : M3.IsWhole) (M4 : Memref sig .tc .vmem S3x65536 .bf16) (h4 : M4.IsWhole)
  (M5 : Memref sig .tc .vmem S3x64x2x128 .bf16) (h5 : M5.IsWhole)
  (f1 : Bf (F := F) M1) (f2 : Bf (F := F) M2) (f3 : Bf (F := F) M3)

/-- One trip: the pieces it stores into the output block, and the region's run leaving them there. -/
@[irreducible] def trip (k : Fin k1_t1_loop.trips) :
    { L : Bf (F := F) M5 → List (View.Piece (Elt F) S3x65536 .bf16) //
      ∀ (f4 : Bf (F := F) M4) (f5 : Bf (F := F) M5),
        iprop(pt c M1 f1 ∗ pt c M2 f2 ∗ pt c M3 f3 ∗ pt c M4 f4 ∗ pt c M5 f5)
        ⊢ wp frame (wpE (defs₀ (F := F)) Variants.none c none) Set.univ (k1_t1_body i M1 h1 M2 h2 M3 h3 M4 h4 M5 h5 k ())
            (fun _ => iprop(pt c M1 f1 ∗ pt c M2 f2 ∗ pt c M3 f3 ∗ pt c M4 (M4.view.writes (Elt F) f4 (L f5)) ∗ ∃ g5, pt c M5 g5)) } := by
  refine ⟨?_, fun f4 f5 => ?run⟩
  case run =>
    unfold k1_t1_body
    iintro ⟨H1, H2, H3, H4, H5⟩
    sl_exec_parts
    sl_step
    sl_close

end Cert.KernelIdeal.Own

end
-- ==== Proof.Ideal.Body1.lean ====
/-
  The distance kernel's body over its whole grid point: the loop by its invariant, and what the body leaves in the
  output block as a function of the blocks of its three inputs alone.
-/
module

public import proofs.«01_k».proof.Proof.Ideal.Trip
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra. -/
local notation "𝕄" => MT nD τ sig Unit (Elt F) ℕ (UR sig nD τ) ℕ

/-- The loop makes sixteen trips. -/
theorem trips_eq : k1_t1_loop.trips = 16 := by decide +kernel

/-! ## The scratch is read only where this trip wrote it -/

/-- Whether the pieces `L` of the scratch hold, for slab `b`, the eight interleaved row groups that make up the slab. -/
def rowsChk (L : List (View.Piece (Elt F) S3x64x2x128 .bf16)) (b : ℕ) : Bool :=
  (List.range 2).all fun half => (List.range 4).all fun a => L.any fun p =>
    decide (p.1.off = ![b, 16 * a + half, 0, 0] ∧ p.1.size = S1x8x2x128.size ∧ p.1.stride = ![1, 2, 1, 1])

/-- Such pieces hold every element of slab `b`. -/
theorem rows_cover (L : List (View.Piece (Elt F) S3x64x2x128 .bf16)) (b : ℕ) (h : rowsChk L b = true) (y : S3x64x2x128.Idx)
    (hy : (y 0 : ℕ) = b) : ∃ p ∈ L, y ∈ p.1.set := by
  have h1 : (y 1 : ℕ) < 64 := (y 1).isLt
  have h2 : (y 2 : ℕ) < 2 := (y 2).isLt
  have h3 : (y 3 : ℕ) < 128 := (y 3).isLt
  simp only [rowsChk, List.all_eq_true, List.any_eq_true, List.mem_range, decide_eq_true_eq] at h
  obtain ⟨p, hp, hoff, hsz, hst⟩ := h ((y 1 : ℕ) % 2) (by omega) ((y 1 : ℕ) / 16) (by omega)
  refine ⟨p, hp, p.1.mem_set.mpr fun a => ?_⟩
  rw [hoff, hsz, hst]
  fin_cases a
  · exact ⟨0, by decide, by show (y 0 : ℕ) = b + 1 * 0; omega⟩
  · refine ⟨(y 1 : ℕ) % 16 / 2, ?_, ?_⟩
    · show (y 1 : ℕ) % 16 / 2 < 8; omega
    · show (y 1 : ℕ) = 16 * ((y 1 : ℕ) / 16) + (y 1 : ℕ) % 2 + 2 * ((y 1 : ℕ) % 16 / 2); omega
  · exact ⟨(y 2 : ℕ), h2, by show (y 2 : ℕ) = 0 + 1 * (y 2 : ℕ); omega⟩
  · exact ⟨(y 3 : ℕ), h3, by show (y 3 : ℕ) = 0 + 1 * (y 3 : ℕ); omega⟩

/-- So a load of slab `b` after such stores does not depend on what the scratch held before them. -/
theorem slab_indep (M5 : Memref sig .tc .vmem S3x64x2x128 .bf16) (f g : Bf (F := F) M5)
    (L : List (View.Piece (Elt F) S3x64x2x128 .bf16)) (b : ℕ) (h : rowsChk L b = true)
    (inb : ∀ a, (![b, 0, 0, 0] : Fin 4 → ℕ) a + S1x64x2x128.size a ≤ S3x64x2x128.size a) :
    View.readAt (Elt F) M5.view (Rect.unit (s := S3x64x2x128) ![b, 0, 0, 0] S1x64x2x128.size inb).toLoadRect (M5.view.writes (Elt F) f L)
      = View.readAt (Elt F) M5.view (Rect.unit (s := S3x64x2x128) ![b, 0, 0, 0] S1x64x2x128.size inb).toLoadRect (M5.view.writes (Elt F) g L) :=
  funext fun j => by
    have hc := rows_cover L b h ((Rect.unit (s := S3x64x2x128) ![b, 0, 0, 0] S1x64x2x128.size inb).toLoadRect.idx j) (by
      have h0 : (j 0 : ℕ) < 1 := (j 0).isLt
      show b + 1 * (j 0 : ℕ) = b
      omega)
    exact (View.read_writes_apply_eq_canon M5.view f _ L hc).trans (View.read_writes_apply_eq_canon M5.view g _ L hc).symm

variable (c : Dev nD) (i : grid1.Coords)
  (M1 : Memref sig .tc .vmem S3x24x2x8x128 .f32) (h1 : M1.IsWhole) (M2 : Memref sig .tc .vmem S32x128 .bf16) (h2 : M2.IsWhole)
  (M3 : Memref sig .tc .vmem S24x32x2048 .i8) (h3 : M3.IsWhole) (M4 : Memref sig .tc .vmem S3x65536 .bf16) (h4 : M4.IsWhole)
  (M5 : Memref sig .tc .vmem S3x64x2x128 .bf16) (h5 : M5.IsWhole)
  (f1 : Bf (F := F) M1) (f2 : Bf (F := F) M2) (f3 : Bf (F := F) M3)

/-- The tile trip `k` stores, the scratch holding anything. -/
@[irreducible] def tile (k : Fin k1_t1_loop.trips) : Vec F S3x4096 .bf16 :=
  k1_pay2 (trip.sl.r_558 M1 M2 M3 M5 f1 f2 f3 k M5.view.junk) (trip.sl.r_569 M1 M2 M3 M5 f1 f2 f3 k M5.view.junk)
    (trip.sl.r_574 M1 M3 M5 f1 f3 k M5.view.junk) (trip.sl.r_575 M1 M3 M5 f1 f3 k M5.view.junk)
    (View.readAt (Elt F) M2.view (Rect.unit (s := S32x128) ![0, 0] S32x128.size inb_S32x128_S32x128_0_0).toLoadRect f2)

/-- One trip stores one tile, the columns `4096 * k` to `4096 * k + 4095` of all rows. -/
theorem trip_eq (k : Fin k1_t1_loop.trips) (f5 : Bf (F := F) M5) :
    (trip c i M1 h1 M2 h2 M3 h3 M4 h4 M5 h5 f1 f2 f3 k).1 f5
      = [⟨Rect.unit (s := S3x65536) (k1_off25 k) S3x4096.size (k1_off25_inb k), tile M1 M2 M3 M5 f1 f2 f3 k⟩] := by
  have e0 : trip.sl.r_558 M1 M2 M3 M5 f1 f2 f3 k f5 = trip.sl.r_558 M1 M2 M3 M5 f1 f2 f3 k M5.view.junk := by
    unfold trip.sl.r_558; rw [slab_indep M5 f5 M5.view.junk _ 0 (by rfl)]
  have e1 : trip.sl.r_569 M1 M2 M3 M5 f1 f2 f3 k f5 = trip.sl.r_569 M1 M2 M3 M5 f1 f2 f3 k M5.view.junk := by
    unfold trip.sl.r_569; rw [slab_indep M5 f5 M5.view.junk _ 1 (by rfl)]
  have e2 : trip.sl.r_574 M1 M3 M5 f1 f3 k f5 = trip.sl.r_574 M1 M3 M5 f1 f3 k M5.view.junk := by
    unfold trip.sl.r_574; rw [slab_indep M5 f5 M5.view.junk _ 2 (by rfl)]
  have e3 : trip.sl.r_575 M1 M3 M5 f1 f3 k f5 = trip.sl.r_575 M1 M3 M5 f1 f3 k M5.view.junk := by
    unfold trip.sl.r_575; rw [slab_indep M5 f5 M5.view.junk _ 2 (by rfl)]
  unfold trip tile
  rw [← e0, ← e1, ← e2, ← e3]

/-! ## The pieces of the trips, and the loop -/

/-- The tile of trip `k`, as a piece of the output block. -/
def piece (k : Fin k1_t1_loop.trips) : View.Piece (Elt F) S3x65536 .bf16 :=
  ⟨Rect.unit (s := S3x65536) (k1_off25 k) S3x4096.size (k1_off25_inb k), tile M1 M2 M3 M5 f1 f2 f3 k⟩

/-- The tiles of the trips before `k`, last first. -/
def pb : ℕ → List (View.Piece (Elt F) S3x65536 .bf16)
  | 0 => []
  | k + 1 => (if h : k < k1_t1_loop.trips then [piece M1 M2 M3 M5 f1 f2 f3 ⟨k, h⟩] else []) ++ pb k

theorem pb_succ (k : Fin k1_t1_loop.trips) :
    pb M1 M2 M3 M5 f1 f2 f3 (k.val + 1) = [piece M1 M2 M3 M5 f1 f2 f3 k] ++ pb M1 M2 M3 M5 f1 f2 f3 k.val := by
  rw [pb.eq_2, dif_pos k.isLt]

theorem mem_pb (k : Fin k1_t1_loop.trips) : ∀ n : ℕ, k.val < n → piece M1 M2 M3 M5 f1 f2 f3 k ∈ pb M1 M2 M3 M5 f1 f2 f3 n
  | n + 1, h => by
    rw [pb.eq_2]
    rcases Nat.lt_or_ge k.val n with hk | hk
    · exact List.mem_append_right _ (mem_pb k n hk)
    · have e : k.val = n := by omega
      subst e
      rw [dif_pos k.isLt]
      exact List.mem_append_left _ List.mem_cons_self

/-- All sixteen tiles cover the output block. -/
theorem pb_cover (y : S3x65536.Idx) : ∃ p ∈ pb M1 M2 M3 M5 f1 f2 f3 k1_t1_loop.trips, y ∈ p.1.set := by
  have h0 : (y 0 : ℕ) < 3 := (y 0).isLt
  have hy : (y 1 : ℕ) < 65536 := (y 1).isLt
  have hk : (y 1 : ℕ) / 4096 < k1_t1_loop.trips := by rw [trips_eq]; omega
  refine ⟨_, mem_pb M1 M2 M3 M5 f1 f2 f3 ⟨(y 1 : ℕ) / 4096, hk⟩ _ hk, ?_⟩
  refine (Rect.mem_set_unit (inb := k1_off25_inb _)).mpr fun a => ?_
  rw [k1_off25_eq]
  fin_cases a
  · exact ⟨Nat.zero_le _, by show (y 0 : ℕ) < 0 + 3; omega⟩
  · exact ⟨by show 4096 * ((y 1 : ℕ) / 4096) ≤ (y 1 : ℕ); omega, by show (y 1 : ℕ) < 4096 * ((y 1 : ℕ) / 4096) + 4096; omega⟩

set_option warn.classDefReducibility false in
/-- The loop by its invariant: before trip `k` the output block holds the tiles of the trips before `k` over what it held
    at entry, the scratch holds something. -/
@[sl_loop] def loopInv_k1_t1 (f4 : Bf (F := F) M4) :
    LoopInvTy_k1_t1 (F := F) Unit ℕ (UR sig nD τ) ℕ Variants.none c none Set.univ i M1 h1 M2 h2 M3 h3 M4 h4 M5 h5 where
  inv k _ := iprop(pt c M1 f1 ∗ pt c M2 f2 ∗ pt c M3 f3
    ∗ (∃ f, pt c M4 f ∗ ⌜f = M4.view.writes (Elt F) f4 (pb M1 M2 M3 M5 f1 f2 f3 k)⌝) ∗ ∃ g, pt c M5 g)
  step k acc := by
    iintro ⟨H1, H2, H3, ⟨%g4, H4, %e4⟩, ⟨%g5, H5⟩⟩
    iapply (wp_wand_r Idealize.ShloMosaic.frame (wpE (defs₀ (F := F)) Variants.none (c : Thread nD τ) none) Set.univ)
    isplitl [H1 H2 H3 H4 H5]
    · iapply ((trip c i M1 h1 M2 h2 M3 h3 M4 h4 M5 h5 f1 f2 f3 k).2 g4 g5)
      isplitl [H1]; · iexact H1
      isplitl [H2]; · iexact H2
      isplitl [H3]; · iexact H3
      isplitl [H4]; · iexact H4
      iexact H5
    · iintro %_ ⟨H1, H2, H3, H4, H5⟩
      isplitl [H1]; · iexact H1
      isplitl [H2]; · iexact H2
      isplitl [H3]; · iexact H3
      rw [pb_succ, trip_eq]
      isplitl [H4]
      · iexists _; isplitl [H4]; · iexact H4
        ipureintro; rw [e4, ← View.writes_append]; rfl
      iexact H5

/-- The body on whole memrefs at contents `f1`, `f2`, `f3`: it leaves the sixteen tiles in the output block. -/
theorem sound_body_raw (f4 : Bf (F := F) M4) (f5 : Bf (F := F) M5) (K : PUnit → sProp 𝕄) :
    iprop(pt c M1 f1 ∗ pt c M2 f2 ∗ pt c M3 f3 ∗ pt c M4 f4 ∗ pt c M5 f5
        ∗ (iprop(pt c M1 f1 ∗ pt c M2 f2 ∗ pt c M3 f3
            ∗ pt c M4 (M4.view.writes (Elt F) f4 (pb M1 M2 M3 M5 f1 f2 f3 k1_t1_loop.trips)) ∗ ∃ g, pt c M5 g) -∗ K ⟨⟩))
      ⊢ wp frame (wpE (defs₀ (F := F)) Variants.none c none) Set.univ (cc1_dist i M1 h1 M2 h2 M3 h3 M4 h4 M5 h5) K := by
  simp only [cc1_dist_eq_skeleton]; unfold cc1_dist_skel
  iintro ⟨H1, H2, H3, H4, H5, Hk⟩
  sl_exec
  sl_step
  iapply Hk
  isplitl [H1]; · iexact H1
  isplitl [H2]; · iexact H2
  isplitl [H3]; · iexact H3
  isplitl [H4]; · iexact H4
  iexists _; iexact H5

/-- What the body leaves in the output block, from what the input blocks read. -/
def out1 (x1 : Vec F S3x24x2x8x128 .f32) (x2 : Vec F S32x128 .bf16) (x3 : Vec F S24x32x2048 .i8) : Vec F S3x65536 .bf16 :=
  View.canon (pb M1 M2 M3 M5 (h1.unread x1) (h2.unread x2) (h3.unread x3) k1_t1_loop.trips)

/-- The body's triple over what the memrefs read. -/
theorem sound_kernel1 (x1 : Vec F S3x24x2x8x128 .f32) (x2 : Vec F S32x128 .bf16) (x3 : Vec F S24x32x2048 .i8) (K : PUnit → sProp 𝕄) :
    iprop(owns (c : Thread nD τ) M1 fullShare x1 ∗ owns (c : Thread nD τ) M2 fullShare x2 ∗ owns (c : Thread nD τ) M3 fullShare x3
        ∗ (∃ d, owns (c : Thread nD τ) M4 fullShare d) ∗ (∃ g, pt (F := F) c M5 g)
        ∗ (iprop(owns (c : Thread nD τ) M1 fullShare x1 ∗ owns (c : Thread nD τ) M2 fullShare x2 ∗ owns (c : Thread nD τ) M3 fullShare x3
            ∗ owns (c : Thread nD τ) M4 fullShare (out1 M1 h1 M2 h2 M3 h3 M5 x1 x2 x3) ∗ (∃ g, pt (F := F) c M5 g)) -∗ K ⟨⟩))
      ⊢ wp frame (wpE (defs₀ (F := F)) Variants.none c none) Set.univ (cc1_dist i M1 h1 M2 h2 M3 h3 M4 h4 M5 h5) K := by
  unfold owns
  iintro ⟨⟨%f1, %hf1, H1⟩, ⟨%f2, %hf2, H2⟩, ⟨%f3, %hf3, H3⟩, ⟨%d, %f4, -, H4⟩, ⟨%f5, H5⟩, Hk⟩
  obtain rfl := h1.eq_unread hf1
  obtain rfl := h2.eq_unread hf2
  obtain rfl := h3.eq_unread hf3
  iapply (sound_body_raw c i M1 h1 M2 h2 M3 h3 M4 h4 M5 h5 (h1.unread x1) (h2.unread x2) (h3.unread x3) f4 f5 K)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H1]
  · iexists (h1.unread x1); isplitr; · ipureintro; exact hf1
    iexact H1
  isplitl [H2]
  · iexists (h2.unread x2); isplitr; · ipureintro; exact hf2
    iexact H2
  isplitl [H3]
  · iexists (h3.unread x3); isplitr; · ipureintro; exact hf3
    iexact H3
  isplitl [H4]
  · iexists _; isplitr
    swap; · iexact H4
    ipureintro
    exact View.read_writes_eq_canon _ _ _ (pb_cover M1 M2 M3 M5 _ _ _)
  iexact H5

end Cert.KernelIdeal.Own

end
-- ==== Proof.Ideal.Region1.lean ====
/-
  The distance kernel's region: what each grid point leaves in its output block, and the region's proof data.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Body1
public import Idealize.ShloMosaic.Lib.Pipeline.FrameBody
public import Idealize.ShloMosaic.Lib.Ring
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra. -/
local notation "𝕄" => MT nD τ sig Unit (Elt F) ℕ (UR sig nD τ) ℕ

/-- What the body leaves in the output block at point `t`, from the blocks of its inputs. -/
def outAt1 (t : Fin cfg1.N) (x1 : Vec F S3x24x2x8x128 .f32) (x2 : Vec F S32x128 .bf16) (x3 : Vec F S24x32x2048 .i8) : Vec F S3x65536 .bf16 :=
  out1 (st1_0 t) (hstage1_0 ((cfg1.slots t 0).cast nbuf1_0)) (st1_1 t) (hstage1_1 ((cfg1.slots t 1).cast nbuf1_1))
    (st1_2 t) (hstage1_2 ((cfg1.slots t 2).cast nbuf1_2)) (Memref.whole cc1_scratch0) x1 x2 x3

/-- The scratch buffer held whole, as the scoped memory lists it. -/
theorem pt_scratch (c : Dev nD) (f : Bf (F := F) (Memref.whole cc1_scratch0)) :
    (pt c (Memref.whole cc1_scratch0) f : sProp 𝕄) = (((c : Thread nD τ).loc cc1_scratch0) ↦{fullShare} f) := by
  unfold pt
  rw [show (Memref.whole cc1_scratch0).view.set = Finset.univ from View.set_whole _]

variable (W : Dev nD → Valuation τ sig (Elt F))

/-- Window `w`'s block at point `t`, read off its array's contents at the region's entry. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The region's proof data, entered with the buffers at `W`: each input's staging buffer holds its block before and after the
    body, the output's holds what the body computes from the blocks; the rest of the scoped memory is untouched between points. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => outAt1 t (blk1 W c 0 t) (blk1 W c 1 t) (blk1 W c 2 t)
  Φ _ := Pipeline.scopedRest spec1 c
  q _ := fullShare
  owed _ := 0

theorem A1_eq (c : Dev nD) (w : Fin cfg1.W) : (dat1 W c).A w = W c (Proc.devRef .tc (Pipeline.arrRef spec1 w)) := by
  dsimp only [dat1]

theorem after1_0 (c : Dev nD) (t : Fin cfg1.N) : (dat1 W c).after 0 t = blk1 W c 0 t := by dsimp only [dat1]
theorem after1_1 (c : Dev nD) (t : Fin cfg1.N) : (dat1 W c).after 1 t = blk1 W c 1 t := by dsimp only [dat1]
theorem after1_2 (c : Dev nD) (t : Fin cfg1.N) : (dat1 W c).after 2 t = blk1 W c 2 t := by dsimp only [dat1]
theorem after1_3 (c : Dev nD) (t : Fin cfg1.N) : (dat1 W c).after 3 t = outAt1 t (blk1 W c 0 t) (blk1 W c 1 t) (blk1 W c 2 t) := by dsimp only [dat1]

/-! Each input's staging buffer holds its block at every point, fetched there or not. -/

theorem before1_0 (c : Dev nD) (t : Fin cfg1.N) (d) : (dat1 W c).before 0 t d = blk1 W c 0 t :=
  ((dat1 W c).before_in_eq_fetched 0 rfl (fun _ => rfl) (fun _ _ _ => rfl)
    (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 W c).before 1 t d = blk1 W c 1 t :=
  ((dat1 W c).before_in_eq_fetched 1 rfl (fun _ => rfl) (fun _ _ _ => rfl)
    (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 W c).before 2 t d = blk1 W c 2 t :=
  ((dat1 W c).before_in_eq_fetched 2 rfl (fun _ => rfl) (fun _ _ _ => rfl)
    (fun t => by rw [after1_2]; unfold Dat.blockOf blk1; rw [A1_eq]; try rfl) t d).trans
    (by unfold Dat.fetched Dat.blockOf blk1; rw [A1_eq]; try rfl)

/-- What the body is called with at point `t`, window by window, -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d)))

/-- and what it returns. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t))

/-- The body at any point: the scratch is taken out of the scoped memory for the body and put back. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2]
  rw [show (dat1 W c).Φ t.succ = (dat1 W c).Φ t.castSucc from rfl,
    show (dat1 W c).owesAt () t.succ = (dat1 W c).owesAt () t.castSucc from rfl,
    after1_0, after1_1, after1_2, after1_3, show (dat1 W c).Φ t.castSucc = Pipeline.scopedRest spec1 c from rfl, scopedRest1_eq]
  iintro ⟨⟨Ha, Hb, Hc, ⟨%fs, Hs⟩⟩, Ho, ⟨%d0, H0⟩, ⟨%d1, H1⟩, ⟨%d2, H2⟩, ⟨%d3, H3⟩⟩
  iapply (sound_kernel1 c (grid1.coords t) _ _ _ _ _ _ _ _ (Memref.whole cc1_scratch0) (Memref.isWhole_whole _) (blk1 W c 0 t) (blk1 W c 1 t) (blk1 W c 2 t) _)
  isplitl [H0]; · iexact H0
  isplitl [H1]; · iexact H1
  isplitl [H2]; · iexact H2
  isplitl [H3]; · iexists _; iexact H3
  isplitl [Hs]; · iexists fs; rw [pt_scratch]; iexact Hs
  iintro ⟨H0, H1, H2, H3, ⟨%gs, Hs⟩⟩
  isplitl [Ha Hb Hc Hs]
  · isplitl [Ha]; · iexact Ha
    isplitl [Hb]; · iexact Hb
    isplitl [Hc]; · iexact Hc
    iexists gs; rw [← pt_scratch]; iexact Hs
  isplitl [Ho]; · iexact Ho
  isplitl [H0]; · iexact H0
  isplitl [H1]; · iexact H1
  isplitl [H2]; · iexact H2
  iexact H3

/-- The body table's row at point `t`'s slots. -/
theorem defs₀_row1 (t : Fin cfg1.N) : defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end Cert.KernelIdeal.Own

end
-- ==== Proof.Ideal.Run.lean ====
/-
  The whole program's run: both regions between their host operations, from any memory with zero counters to the end, with
  what the two results hold.
-/
module

public import proofs.«01_k».proof.Proof.Ideal.Region0
public import proofs.«01_k».proof.Proof.Ideal.Region1
public import proofs.«01_k».proof.Proof.Gen.KernelIdeal.Regions
public import Idealize.ShloMosaic.Lib.Pipeline.RegionArraysS

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

/-- The resource algebra. -/
local notation "𝕄" => MT nD τ sig Unit (Elt F) ℕ (UR sig nD τ) ℕ

variable (m : (ℓ : Loc nD τ sig) → Buf (Elt F) ℓ) (ρ : Dev nD → PrngReg)

/-! ## What the regions leave -/

/-- The buffers after the table kernel's region. -/
def outsA : Outs (F := F) := fun _ r c => afterRegion (dat0 (V1 m) c) (V1 m c) (Proc.devRef .tc r)
/-- What each region leaves: the table kernel's region at item 2, the distance kernel's after it. -/
def outs : Outs (F := F)
  | 2, r, c => outsA m 2 r c
  | _, r, c => afterRegion (dat1 (V5 m (outsA m)) c) (V5 m (outsA m) c) (Proc.devRef .tc r)

/-- The buffers at the distance kernel's entry read the table kernel's region alone. -/
theorem V5_outs (c : Dev nD) : V5 m (outs m) c = V5 m (outsA m) c := rfl

/-- Both regions' proof data. -/
def pdats : (p : Fin 2) → (c : Dev nD) → Dat τ (Elt F) Unit ℕ (UR sig nD τ) ℕ (cfgs p) c
  | ⟨0, _⟩, c => dat0 (V1 m) c
  | ⟨1, _⟩, c => dat1 (V5 m (outsA m)) c

/-- After the table kernel's region the buffers are the entry's but for the table. -/
theorem after0 (c : Dev nD) : ∀ b ∈ Pipeline.ucRefs τ sig, afterRegion (dat0 (V1 m) c) (V1 m c) b = V2 m (outs m) c b := by
  intro b hb
  obtain ⟨r, -, rfl⟩ := Finset.mem_map.mp (Finset.mem_filter.mp hb).1
  by_cases h : r = main_v2
  · subst h
    exact (Function.update_self (f := V1 m c) (Proc.devRef .tc main_v2) _).symm
  · refine (Pipeline.afterRegion_keeps (dat0 (V1 m) c) (V1 m c) winFacts0.arr_inj (fun w => A0_eq (V1 m) c w) r (fun w hw => ?_)).trans
      (V2_of m (outs m) c r (by simpa using h)).symm
    revert hw
    fin_cases w
    · exact fun _ => rfl
    · exact fun _ => rfl
    · exact fun hw => absurd hw.symm h

/-- After the distance kernel's region the buffers are the entry's but for the distances. -/
theorem after1 (c : Dev nD) :
    ∀ b ∈ Pipeline.ucRefs τ sig, afterRegion (dat1 (V5 m (outsA m)) c) (V5 m (outsA m) c) b = V6 m (outs m) c b := by
  intro b hb
  obtain ⟨r, -, rfl⟩ := Finset.mem_map.mp (Finset.mem_filter.mp hb).1
  by_cases h : r = main_v11
  · subst h
    exact (Function.update_self (f := V5 m (outs m) c) (Proc.devRef .tc main_v11) _).symm
  · refine (Pipeline.afterRegion_keeps (dat1 (V5 m (outsA m)) c) (V5 m (outsA m) c) winFacts1.arr_inj
      (fun w => A1_eq (V5 m (outsA m)) c w) r (fun w hw => ?_)).trans ((V6_of m (outs m) c r (by simpa using h)).trans (by rw [V5_outs])).symm
    revert hw
    fin_cases w
    · exact fun _ => rfl
    · exact fun _ => rfl
    · exact fun _ => rfl
    · exact fun hw => absurd hw.symm h

/-! ## The regions as segments -/

/-- Nothing is owed: the staging cells' one index is assigned at level zero. -/
abbrev L : GSem nD τ sig → Finset Unit := fun g => if g.1.2 = .tc then {()} else ∅
abbrev lv : GSem nD τ sig → Unit → ℕ := fun _ _ => 0

/-- What rides beside the buffers between items: the core owing nothing. -/
abbrev E : Fin 3 → Dev nD → sProp 𝕄 := fun _ c => iprop(∃ W, owes (c : Thread nD τ) (0 : CellTallies nD τ sig Unit) W)

theorem cut (p : Fin 2) : Pipeline.LevelCut (pcfgs (F := F)) adm () L lv p (fun _ => 0) (fun _ => 0) where
  hι c w s := by show () ∈ (if (Proc.tc : Proc τ) = .tc then ({()} : Finset Unit) else ∅); simp
  hιb c w s := le_refl _
  hD c g i h := absurd h (by show ¬ (0 : ℕ) < 0; omega)

set_option backward.isDefEq.respectTransparency.types false in
/-- The table kernel's region. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl (fun c => (body_obligation0 (V1 m) c).loose)
    (fun _ _ => rfl) (fun _ => rfl) (fun c => (dat0 (V1 m) c).share_full fun _ => rfl)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H; isplitl [H]; · iexact H
      iempintro)
    (fun _ => 0) (cut 0) (fun _ => iprop(emp)) (V1 m) (fun c w => A0_eq (V1 m) c w)

set_option backward.isDefEq.respectTransparency.types false in
/-- The distance kernel's region. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl (fun c => (body_obligation1 (V5 m (outsA m)) c).loose)
    (fun _ _ => rfl) (fun _ => rfl) (fun c => (dat1 (V5 m (outsA m)) c).share_full fun _ => rfl)
    (fun c => by
      show iprop(Pipeline.scopedRest spec1 c ∗ emp) ⊢ Pipeline.scopedRest spec1 c
      iintro ⟨H, -⟩; iexact H)
    (fun c => by
      show Pipeline.scopedRest spec1 c ⊢ iprop(Pipeline.scopedRest spec1 c ∗ emp)
      iintro H; isplitl [H]; · iexact H
      iempintro)
    (fun _ => 0) (cut 1) (fun _ => iprop(emp)) (V5 m (outsA m)) (fun c w => A1_eq (V5 m (outsA m)) c w)

theorem pre0 (c : Dev nD) :
    iprop(StableHlo.held (c : Thread nD τ) (Pipeline.ucRefs τ sig) (V1 m c) ∗ E (F := F) 0 c) ⊢ (R0 m).pre c := by
  refine BIBase.Entails.trans ?_ (RegionSeg.ofHeldIn_pre (p := 0) (pcs := pcfgs (F := F)) (Pipeline.arrRefs_sub_ucRefs spec0 winFacts0.arr_unscoped) c)
  iintro ⟨H, HO⟩
  isplitl [H]; · iexact H
  isplitl [HO]; · iexact HO
  isplitl []; · iempintro
  iempintro

theorem post0 (c : Dev nD) :
    (R0 m).post c ⊢ iprop(StableHlo.held (c : Thread nD τ) (Pipeline.ucRefs τ sig) (V2 m (outs m) c) ∗ E (F := F) 1 c) := by
  rw [← StableHlo.held_congr (c : Thread nD τ) (after0 m c)]
  refine (RegionSeg.ofHeldIn_post (p := 0) (pcs := pcfgs (F := F)) (Pipeline.arrRefs_sub_ucRefs spec0 winFacts0.arr_unscoped) c).trans ?_
  iintro ⟨H, HO, -, -⟩
  isplitl [H]; · iexact H
  iexact HO

theorem pre1 (c : Dev nD) :
    iprop(StableHlo.held (c : Thread nD τ) (Pipeline.ucRefs τ sig) (V5 m (outs m) c) ∗ E (F := F) 1 c) ⊢ (R1 m).pre c := by
  rw [V5_outs]
  refine BIBase.Entails.trans ?_ (RegionSeg.ofHeldIn_pre (p := 1) (pcs := pcfgs (F := F)) (Pipeline.arrRefs_sub_ucRefs spec1 winFacts1.arr_unscoped) c)
  iintro ⟨H, HO⟩
  isplitl [H]; · iexact H
  isplitl [HO]; · iexact HO
  isplitl []; · iempintro
  iempintro

theorem post1 (c : Dev nD) :
    (R1 m).post c ⊢ iprop(StableHlo.held (c : Thread nD τ) (Pipeline.ucRefs τ sig) (V6 m (outs m) c) ∗ E (F := F) 2 c) := by
  rw [← StableHlo.held_congr (c : Thread nD τ) (after1 m c)]
  refine (RegionSeg.ofHeldIn_post (p := 1) (pcs := pcfgs (F := F)) (Pipeline.arrRefs_sub_ucRefs spec1 winFacts1.arr_unscoped) c).trans ?_
  iintro ⟨H, HO, -, -⟩
  isplitl [H]; · iexact H
  iexact HO

/-! ## The frame -/

set_option backward.isDefEq.respectTransparency.types false in
/-- Every weakly fair execution from any memory with zero counters ends, each argument as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame_cond m emb₁ () Variants.none L lv (fun g h => if_neg h) ρ (outs m) (pdats m) 0 (fun _ => iprop(emp))
    (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, -, -⟩, -⟩
      imodintro
      iexists ∅; iexact HO)
    (fun c => .rfl) (R0 m) (pre0 m) (post0 m) (R1 m) (pre1 m) (post1 m)

end Cert.KernelIdeal.Own

end
-- ==== Proof.Ideal.Acc.lean ====
/-
  What one trip of the distance kernel's loop sums: for each row of queries and each byte of the codes' words, the
  twenty-four table entries that the bytes name, added in order.
-/
module

public import proofs.«01_k».proof.Proof.Ideal.Trip

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F]

/-- Where trip `k` loads the codes of subspace `m`. -/
def offs (k : Fin k1_t1_loop.trips) : Fin 24 → Fin 3 → ℕ :=
  ![k1_off1 k, k1_off2 k, k1_off3 k, k1_off4 k, k1_off5 k, k1_off6 k, k1_off7 k, k1_off8 k, k1_off9 k, k1_off10 k, k1_off11 k, k1_off12 k, k1_off13 k, k1_off14 k, k1_off15 k, k1_off16 k, k1_off17 k, k1_off18 k, k1_off19 k, k1_off20 k, k1_off21 k, k1_off22 k, k1_off23 k, k1_off24 k]

theorem offs_eq (k : Fin k1_t1_loop.trips) (m : Fin 24) : offs k m = ![m.val, 0, 128 * k.val] := by
  fin_cases m
  · exact Gen.k1_off1_eq k
  · exact Gen.k1_off2_eq k
  · exact Gen.k1_off3_eq k
  · exact Gen.k1_off4_eq k
  · exact Gen.k1_off5_eq k
  · exact Gen.k1_off6_eq k
  · exact Gen.k1_off7_eq k
  · exact Gen.k1_off8_eq k
  · exact Gen.k1_off9_eq k
  · exact Gen.k1_off10_eq k
  · exact Gen.k1_off11_eq k
  · exact Gen.k1_off12_eq k
  · exact Gen.k1_off13_eq k
  · exact Gen.k1_off14_eq k
  · exact Gen.k1_off15_eq k
  · exact Gen.k1_off16_eq k
  · exact Gen.k1_off17_eq k
  · exact Gen.k1_off18_eq k
  · exact Gen.k1_off19_eq k
  · exact Gen.k1_off20_eq k
  · exact Gen.k1_off21_eq k
  · exact Gen.k1_off22_eq k
  · exact Gen.k1_off23_eq k
  · exact Gen.k1_off24_eq k

theorem offs_inb (k : Fin k1_t1_loop.trips) (m : Fin 24) (a : Fin 3) : offs k m a + S1x32x128.size a ≤ S24x32x2048.size a := by
  have h : k.val < 16 := k.isLt
  rw [offs_eq]
  fin_cases a
  · show m.val + 1 ≤ 24; omega
  · show 0 + 32 ≤ 32; omega
  · show 128 * k.val + 128 ≤ 2048; omega

theorem half_inb (b : Fin 3) (m : Fin 24) (h : Fin 2) (a : Fin 5) :
    (![b.val, m.val, h.val, 0, 0] : Fin 5 → ℕ) a + S1x1x1x8x128.size a ≤ S3x24x2x8x128.size a := by
  fin_cases a
  · show b.val + 1 ≤ 3; omega
  · show m.val + 1 ≤ 24; omega
  · show h.val + 1 ≤ 2; omega
  · show 0 + 8 ≤ 8; omega
  · show 0 + 128 ≤ 128; omega

variable (M1 : Memref sig .tc .vmem S3x24x2x8x128 .f32) (M3 : Memref sig .tc .vmem S24x32x2048 .i8)
  (f1 : Bf (F := F) M1) (f3 : Bf (F := F) M3) (k : Fin k1_t1_loop.trips)

/-- The words of subspace `m`'s codes: four rows of bytes to a row of words. -/
def word (m : Fin 24) : IVec S8x128 32 :=
  k1_pay3 (F := F) (View.readAt (Elt F) M3.view (Rect.unit (s := S24x32x2048) (offs k m) S1x32x128.size (offs_inb k m)).toLoadRect f3)

/-- Half `h` of query row `b`'s table of subspace `m`. -/
def halfTab (b : Fin 3) (m : Fin 24) (h : Fin 2) : FVec F S8x128 .f32 :=
  shapeCast S8x128 (View.readAt (Elt F) M1.view
    (Rect.unit (s := S3x24x2x8x128) ![b.val, m.val, h.val, 0, 0] S1x1x1x8x128.size (half_inb b m h)).toLoadRect f1)
    shapeCasts_S1x1x1x8x128_S8x128

/-- The words shifted so that byte `s` is lowest. -/
def shifted (c : IVec S8x128 32) : Fin 4 → IVec S8x128 32 :=
  ![c, shrui c (broadcast S8x128 8#32), shrui c (broadcast S8x128 16#32), shrui c (broadcast S8x128 24#32)]

/-- The table entries the lowest bytes of `c` name: bit 7 says which half, the bits below it the lane. -/
def look (hi lo : FVec F S8x128 .f32) (c : IVec S8x128 32) : FVec F S8x128 .f32 :=
  select (cmpi .ne (andi c (broadcast S8x128 128#32)) (broadcast S8x128 0#32))
    (dynamicGather 1 hi (shapeCast S8x128 (shapeCast S8x128x1 (andi c (broadcast S8x128 127#32)) shapeCasts_S8x128_S8x128x1) shapeCasts_S8x128x1_S8x128))
    (dynamicGather 1 lo (shapeCast S8x128 (shapeCast S8x128x1 (andi c (broadcast S8x128 127#32)) shapeCasts_S8x128_S8x128x1) shapeCasts_S8x128x1_S8x128))

/-- Twenty-four vectors added, first to last. -/
def sum24 (v : Fin 24 → FVec F S8x128 .f32) : FVec F S8x128 .f32 :=
  addf (addf (addf (addf (addf (addf (addf (addf (addf (addf (addf (addf (addf (addf (addf (addf (addf (addf (addf (addf (addf (addf (addf (v 0) (v 1)) (v 2)) (v 3)) (v 4)) (v 5)) (v 6)) (v 7)) (v 8)) (v 9)) (v 10)) (v 11)) (v 12)) (v 13)) (v 14)) (v 15)) (v 16)) (v 17)) (v 18)) (v 19)) (v 20)) (v 21)) (v 22)) (v 23)

/-- The sum over the subspaces of the entries that byte `s` of the words names in query row `b`'s tables. -/
def acc (b : Fin 3) (s : Fin 4) : FVec F S8x128 .f32 :=
  sum24 fun m => look (halfTab M1 f1 b m 1) (halfTab M1 f1 b m 0) (shifted (word M3 f3 k m) s)

/-! The twelve sums as the trip names them. -/

attribute [local irreducible] bitcast shapeCast dynamicGather andi View.readAt cmpi select addf broadcast shrui

theorem sum_0_0 : trip.sl.r_531 M1 M3 f1 f3 k = acc M1 M3 f1 f3 k 0 0 := rfl
theorem sum_1_0 : trip.sl.r_532 M1 M3 f1 f3 k = acc M1 M3 f1 f3 k 1 0 := rfl
theorem sum_2_0 : trip.sl.r_533 M1 M3 f1 f3 k = acc M1 M3 f1 f3 k 2 0 := rfl
theorem sum_0_1 : trip.sl.r_538 M1 M3 f1 f3 k = acc M1 M3 f1 f3 k 0 1 := rfl
theorem sum_1_1 : trip.sl.r_539 M1 M3 f1 f3 k = acc M1 M3 f1 f3 k 1 1 := rfl
theorem sum_2_1 : trip.sl.r_540 M1 M3 f1 f3 k = acc M1 M3 f1 f3 k 2 1 := rfl
theorem sum_0_2 : trip.sl.r_541 M1 M3 f1 f3 k = acc M1 M3 f1 f3 k 0 2 := rfl
theorem sum_1_2 : trip.sl.r_542 M1 M3 f1 f3 k = acc M1 M3 f1 f3 k 1 2 := rfl
theorem sum_2_2 : trip.sl.r_543 M1 M3 f1 f3 k = acc M1 M3 f1 f3 k 2 2 := rfl
theorem sum_0_3 : trip.sl.r_545 M1 M3 f1 f3 k = acc M1 M3 f1 f3 k 0 3 := rfl
theorem sum_1_3 : trip.sl.r_546 M1 M3 f1 f3 k = acc M1 M3 f1 f3 k 1 3 := rfl
theorem sum_2_3 : trip.sl.r_547 M1 M3 f1 f3 k = acc M1 M3 f1 f3 k 2 3 := rfl

end Cert.KernelIdeal.Own

end
-- ==== Proof.Ideal.Pieces.lean ====
/-
  What one trip of the distance kernel stores into its scratch, in one form: for each row of queries, each residue of the
  lane modulo four and each half of the words, the sums of two neighbouring bytes, kept on the lanes of that residue and
  zero elsewhere.
-/
module

public import proofs.«01_k».proof.Proof.Ideal.Acc
public import proofs.«01_k».proof.Proof.Ideal.Body1

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F]

/-- Two vectors kept on the lanes of residue `a`, zero elsewhere, their rows in pairs. -/
def pairRows (a : BitVec 32) (lo hi : FVec F S8x128 .f32) : Vec F S1x8x2x128 .bf16 :=
  interleaveRows S1x8x2x128
    (shapeCast S1x8x1x128 (shapeCast S1x8x128 (select (cmpi .eq k1_pay1 (broadcast S8x128 a))
      (truncf .bf16 lo bitsLt_bf16_f32) (constant S8x128 .bf16 0x0000#16)) shapeCasts_S8x128_S1x8x128) shapeCasts_S1x8x128_S1x8x1x128)
    (shapeCast S1x8x1x128 (shapeCast S1x8x128 (select (cmpi .eq k1_pay1 (broadcast S8x128 a))
      (truncf .bf16 hi bitsLt_bf16_f32) (constant S8x128 .bf16 0x0000#16)) shapeCasts_S8x128_S1x8x128) shapeCasts_S1x8x128_S1x8x1x128)
    bitcasts_S1x8x2x128_w16_S1x8x1x128_w32

theorem grp_inb (b : Fin 3) (a : Fin 4) (half : Fin 2) (x : Fin 4) :
    S1x8x2x128.size x = 0 ∨ (![b.val, 16 * a.val + half.val, 0, 0] : Fin 4 → ℕ) x + (![1, 2, 1, 1] : Fin 4 → ℕ) x * (S1x8x2x128.size x - 1) < S3x64x2x128.size x := by
  right
  fin_cases x
  · show b.val + 1 * (1 - 1) < 3; omega
  · show 16 * a.val + half.val + 2 * (8 - 1) < 64; omega
  · show 0 + 1 * (2 - 1) < 2; omega
  · show 0 + 1 * (128 - 1) < 128; omega

variable (M1 : Memref sig .tc .vmem S3x24x2x8x128 .f32) (M3 : Memref sig .tc .vmem S24x32x2048 .i8)
  (f1 : Bf (F := F) M1) (f3 : Bf (F := F) M3) (k : Fin k1_t1_loop.trips)

/-- The group of rows of slab `b`, residue `a` and half `half`: bytes `2 * half` and `2 * half + 1`. -/
def grp (b : Fin 3) (a : Fin 4) (half : Fin 2) : View.Piece (Elt F) S3x64x2x128 .bf16 :=
  ⟨{ off := ![b.val, 16 * a.val + half.val, 0, 0], size := S1x8x2x128.size, stride := ![1, 2, 1, 1],
     inb := grp_inb b a half, stride_pos := spos_1_2_1_1 },
    pairRows (BitVec.ofNat 32 a.val) (acc M1 M3 f1 f3 k b (![0, 2] half)) (acc M1 M3 f1 f3 k b (![1, 3] half))⟩

/-- The eight groups of slab `b`, the last stored first. -/
def grps (b : Fin 3) : List (View.Piece (Elt F) S3x64x2x128 .bf16) :=
  [grp M1 M3 f1 f3 k b 3 1, grp M1 M3 f1 f3 k b 2 1, grp M1 M3 f1 f3 k b 1 1, grp M1 M3 f1 f3 k b 0 1,
   grp M1 M3 f1 f3 k b 3 0, grp M1 M3 f1 f3 k b 2 0, grp M1 M3 f1 f3 k b 1 0, grp M1 M3 f1 f3 k b 0 0]

attribute [local irreducible] bitcast shapeCast select cmpi truncf interleaveRows broadcast constant acc k1_pay1

/-- The pieces of the scratch before the load of each slab, in the groups. -/
theorem pieces0 : trip.sl.H5_8 M1 M3 f1 f3 k = grps M1 M3 f1 f3 k 0 := by
  unfold trip.sl.H5_8 trip.sl.H5_7 trip.sl.H5_4 trip.sl.H5_1 trip.sl.r_557 trip.sl.r_556 trip.sl.r_555 trip.sl.r_554
    trip.sl.r_553 trip.sl.r_552 trip.sl.r_551 trip.sl.r_550 trip.sl.r_549 trip.sl.r_548
  rw [sum_0_0, sum_0_1, sum_0_2, sum_0_3]
  rfl

theorem pieces1 : trip.sl.H5_16 M1 M3 f1 f3 k = grps M1 M3 f1 f3 k 1 ++ grps M1 M3 f1 f3 k 0 := by
  unfold trip.sl.H5_16 trip.sl.H5_15 trip.sl.H5_12 trip.sl.H5_9 trip.sl.r_568 trip.sl.r_567 trip.sl.r_566 trip.sl.r_565
    trip.sl.r_564 trip.sl.r_562 trip.sl.r_561 trip.sl.r_560 trip.sl.r_559
  rw [sum_1_0, sum_1_1, sum_1_2, sum_1_3, pieces0]
  rfl

theorem pieces2 : trip.sl.H5_24 M1 M3 f1 f3 k
    = grps M1 M3 f1 f3 k 2 ++ (grps M1 M3 f1 f3 k 1 ++ grps M1 M3 f1 f3 k 0) := by
  unfold trip.sl.H5_24 trip.sl.H5_21 trip.sl.H5_18 trip.sl.r_573 trip.sl.r_572 trip.sl.r_571 trip.sl.r_570
  rw [sum_2_0, sum_2_1, sum_2_2, sum_2_3, pieces1]
  rfl

end Cert.KernelIdeal.Own

end
-- ==== Proof.Ideal.Slab.lean ====
/-
  What the scratch holds when a slab of it is loaded, element by element, over the reals.
-/
module

public import proofs.«01_k».proof.Proof.Ideal.Pieces
public import Idealize.ShloMosaic.Lib.ValueLayout
public import Idealize.ShloMosaic.Lib.MatmulPlain
public import Idealize.ShloMosaic.Lib.Bf16PairInverse

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx

/-! ## Rows in pairs -/

/-- Rows in pairs, read: the first of the pair is the low vector's, the second the high one's. -/
theorem interleave4_apply {α : Type} (lo hi : S1x8x1x128.Idx → α) (u : Fin 1) (r : Fin 8) (p : Fin 2) (l : Fin 128) :
    interleaveRows S1x8x2x128 lo hi bitcasts_S1x8x2x128_w16_S1x8x1x128_w32 (ix4 u r p l)
      = if p.val = 0 then lo (ix4 u r 0 l) else hi (ix4 u r 0 l) := by
  have hp : p.val % 2 = p.val := by omega
  unfold interleaveRows
  dsimp only
  rw [show S1x8x2x128.row (ix4 u r p l) = p.val from rfl, hp]
  have hj : ∀ (j : S1x8x1x128.Idx), (j 0).val = u.val → (j 1).val = r.val → (j 3).val = l.val → j = ix4 u r 0 l := by
    intro j h0 h1 h3
    rw [eq_ix4 j]
    congr 1
    · exact Fin.ext h0
    · exact Fin.ext h1
    · exact Subsingleton.elim (α := Fin 1) _ _
    · exact Fin.ext h3
  exact if_congr Iff.rfl (congrArg lo (hj _ rfl rfl rfl)) (congrArg hi (hj _ rfl rfl rfl))

/-- Rows in pairs of a matrix, read: row `2 * a` is row `a` of the low matrix, row `2 * a + 1` row `a` of the high one. -/
theorem interleave2_apply {α : Type} (lo hi : S64x128.Idx → α) (r : Fin 128) (l : Fin 128) :
    interleaveRows S128x128 lo hi bitcasts_S128x128_w16_S64x128_w32 (ix2 r l)
      = if r.val % 2 = 0 then lo (ix2 (⟨r.val / 2, by omega⟩ : Fin 64) l) else hi (ix2 (⟨r.val / 2, by omega⟩ : Fin 64) l) := by
  unfold interleaveRows
  dsimp only
  rw [show S128x128.row (ix2 r l) = r.val from rfl]
  have hj : ∀ (j : S64x128.Idx), (j 0).val = r.val / 2 → (j 1).val = l.val → j = ix2 (⟨r.val / 2, by omega⟩ : Fin 64) l := by
    intro j h0 h1
    rw [eq_ix2 j]
    congr 1
    · exact Fin.ext h0
    · exact Fin.ext h1
  exact if_congr Iff.rfl (congrArg lo (hj _ rfl rfl)) (congrArg hi (hj _ rfl rfl))

/-- One row of every pair, read. -/
theorem parity_apply {α : Type} (p : Fin 2) (x : S1x64x2x128.Idx → α) (r : Fin 64) (l : Fin 128) :
    rowsOfParity p S1x64x1x128 x bitcasts_S1x64x2x128_w16_S1x64x1x128_w32 (ix4 (0 : Fin 1) r (0 : Fin 1) l) = x (ix4 (0 : Fin 1) r p l) := by
  unfold rowsOfParity
  have hj : ∀ (j : S1x64x2x128.Idx), (j 1).val = r.val → (j 2).val = p.val → (j 3).val = l.val → j = ix4 (0 : Fin 1) r p l := by
    intro j h1 h2 h3
    rw [eq_ix4 j]
    congr 1
    · exact Subsingleton.elim (α := Fin 1) _ _
    · exact Fin.ext h1
    · exact Fin.ext h2
    · exact Fin.ext h3
  exact congrArg x (hj _ rfl (by show 2 * 0 + p.val = p.val; omega) rfl)

/-- Eight rows seen as one row of each of eight pairs. -/
theorem cast8_apply {α : Type} (x : S8x128.Idx → α) (u : Fin 1) (r : Fin 8) (l : Fin 128) :
    shapeCast S1x8x1x128 (shapeCast S1x8x128 x shapeCasts_S8x128_S1x8x128) shapeCasts_S1x8x128_S1x8x1x128 (ix4 u r (0 : Fin 1) l)
      = x (ix2 r l) := by
  rw [shapeCast_apply _ _ _ (ix3 (0 : Fin 1) r l) (by
    rw [Shape.rowMajor_val_four, Shape.rowMajor_val_three]
    show (0 * 8 + r.val) * 128 + l.val = ((u.val * 8 + r.val) * 1 + 0) * 128 + l.val
    omega)]
  exact shapeCast_ab_1ab_apply x shapeCasts_S8x128_S1x8x128 0 r l

/-- Sixty-four rows of pairs seen as sixty-four rows. -/
theorem cast64_apply {α : Type} (x : S1x64x1x128.Idx → α) (r : Fin 64) (l : Fin 128) :
    shapeCast S64x128 (shapeCast S1x64x128 x shapeCasts_S1x64x1x128_S1x64x128) shapeCasts_S1x64x128_S64x128 (ix2 r l)
      = x (ix4 (0 : Fin 1) r (0 : Fin 1) l) := by
  rw [show shapeCast S64x128 (shapeCast S1x64x128 x shapeCasts_S1x64x1x128_S1x64x128) shapeCasts_S1x64x128_S64x128 (ix2 r l)
      = shapeCast S1x64x128 x shapeCasts_S1x64x1x128_S1x64x128 (ix3 (0 : Fin 1) r l) from
    shapeCast_1ab_ab_apply _ shapeCasts_S1x64x128_S64x128 r l]
  exact shapeCast_apply _ _ _ _ (by
    rw [Shape.rowMajor_val_four, Shape.rowMajor_val_three]
    show ((0 * 64 + r.val) * 1 + 0) * 128 + l.val = (0 * 64 + r.val) * 128 + l.val
    omega)

/-! ## What the scratch holds -/

/-- The lane's residue modulo four, as the kernel computes it. -/
def laneMod (l : Fin 128) : BitVec 32 :=
  let r := IntOp.remsi .vector (BitVec.ofNat 32 (0 * 128 + l.val)) 4#32
  Scalar.select ((IntOp.cmpi .slt r 0#32 ^^^ Scalar.cmpi .slt 4#32 0#32) &&& IntOp.cmpi .ne r 0#32) (r + 4#32) r

theorem k1_pay1_apply (r : Fin 8) (l : Fin 128) : k1_pay1 (ix2 r l) = laneMod l := rfl

theorem laneMod_eq : ∀ l : Fin 128, laneMod l = BitVec.ofNat 32 (l.val % 4) := by decide +kernel

/-- The lane's residue is `a` exactly on the lanes of residue `a`. -/
theorem laneMod_cmp (a : Fin 4) (l : Fin 128) :
    IntOp.cmpi .eq (laneMod l) (BitVec.ofNat 32 a.val) = if l.val % 4 = a.val then 1#1 else 0#1 := by
  rw [laneMod_eq]
  revert a l
  decide +kernel

variable (M1 : Memref sig .tc .vmem S3x24x2x8x128 .f32) (M3 : Memref sig .tc .vmem S24x32x2048 .i8)
  (f1 : Bf (F := Ideal) M1) (f3 : Bf (F := Ideal) M3) (k : Fin k1_t1_loop.trips)

/-- Row `ρ`, half `h` and lane `l` of slab `b` of the scratch. -/
def kept (b : Fin 3) (ρ : ℕ) (h : ℕ) (l : Fin 128) : EReal :=
  if l.val % 4 = ρ / 16 then
    acc M1 M3 f1 f3 k b ⟨(2 * (ρ % 2) + h) % 4, by omega⟩ (ix2 (⟨ρ % 16 / 2, by omega⟩ : Fin 8) l)
  else 0

/-- The scratch as one function of its index. -/
def keptAll (y : S3x64x2x128.Idx) : EReal := kept M1 M3 f1 f3 k (y 0) (y 1).val (y 2).val (y 3)

/-- A vector kept on the lanes of residue `a`, read. -/
theorem keep_apply (a : Fin 4) (x : FVec Ideal S8x128 .f32) (r : Fin 8) (l : Fin 128) :
    select (cmpi .eq k1_pay1 (broadcast S8x128 (BitVec.ofNat 32 a.val))) (truncf .bf16 x bitsLt_bf16_f32)
        (constant (F := Ideal) S8x128 .bf16 0x0000#16) (ix2 r l)
      = if l.val % 4 = a.val then x (ix2 r l) else (0 : EReal) := by
  show Scalar.select (IntOp.cmpi .eq (k1_pay1 (ix2 r l)) (BitVec.ofNat 32 a.val)) (x (ix2 r l)) _ = _
  rw [k1_pay1_apply, laneMod_cmp, show (constant (F := Ideal) S8x128 .bf16 0x0000#16) (ix2 r l) = (0 : EReal) from
    congrFun (IdealRules.bf16_pair.ideal_zero_vec S8x128) _]
  split <;> rfl

/-- Every group stores the scratch's function. -/
theorem grp_agrees (b : Fin 3) (a : Fin 4) (half : Fin 2) (x : S1x8x2x128.Idx) :
    (grp M1 M3 f1 f3 k b a half).2 x = keptAll M1 M3 f1 f3 k ((grp M1 M3 f1 f3 k b a half).1.emb x) := by
  obtain ⟨u, r, p, l, rfl⟩ : ∃ (u : Fin 1) (r : Fin 8) (p : Fin 2) (l : Fin 128), x = ix4 u r p l := ⟨x 0, x 1, x 2, x 3, eq_ix4 x⟩
  have e0 : ((grp M1 M3 f1 f3 k b a half).1.emb (ix4 u r p l) 0) = b := Fin.ext (by show b.val + 1 * u.val = b.val; omega)
  have e1 : ((grp M1 M3 f1 f3 k b a half).1.emb (ix4 u r p l) 1).val = 16 * a.val + half.val + 2 * r.val := rfl
  have e2 : ((grp M1 M3 f1 f3 k b a half).1.emb (ix4 u r p l) 2).val = p.val := by show 0 + 1 * p.val = p.val; omega
  have e3 : ((grp M1 M3 f1 f3 k b a half).1.emb (ix4 u r p l) 3) = l := Fin.ext (by show 0 + 1 * l.val = l.val; omega)
  unfold keptAll
  rw [e0, e1, e2, e3]
  unfold kept
  show interleaveRows S1x8x2x128 _ _ bitcasts_S1x8x2x128_w16_S1x8x1x128_w32 (ix4 u r p l) = _
  rw [interleave4_apply, cast8_apply, cast8_apply, keep_apply, keep_apply]
  have q0 : (16 * a.val + half.val + 2 * r.val) / 16 = a.val := by omega
  have q1 : (16 * a.val + half.val + 2 * r.val) % 2 = half.val := by omega
  have q2 : (16 * a.val + half.val + 2 * r.val) % 16 / 2 = r.val := by omega
  simp only [q0, q1, q2]
  by_cases hl : l.val % 4 = a.val
  · simp only [if_pos hl]
    match half, p with
    | ⟨0, _⟩, ⟨0, _⟩ => rfl
    | ⟨0, _⟩, ⟨1, _⟩ => rfl
    | ⟨1, _⟩, ⟨0, _⟩ => rfl
    | ⟨1, _⟩, ⟨1, _⟩ => rfl
  · simp only [if_neg hl, ite_self]

/-- So do all the groups of a slab. -/
theorem grps_agree (b : Fin 3) : ∀ p ∈ grps M1 M3 f1 f3 k b, ∀ x : p.1.shape.Idx, p.2 x = keptAll M1 M3 f1 f3 k (p.1.emb x) := by
  intro p hp
  unfold grps at hp
  simp only [List.mem_cons, List.not_mem_nil, or_false] at hp
  rcases hp with rfl | rfl | rfl | rfl | rfl | rfl | rfl | rfl <;> exact grp_agrees M1 M3 f1 f3 k b _ _

/-- The load of slab `b` after stores that agree with the scratch's function and cover the slab. -/
theorem slab_apply (M5 : Memref sig .tc .vmem S3x64x2x128 .bf16) (L : List (View.Piece (Elt Ideal) S3x64x2x128 .bf16)) (b : Fin 3)
    (hL : ∀ p ∈ L, ∀ x : p.1.shape.Idx, p.2 x = keptAll M1 M3 f1 f3 k (p.1.emb x)) (h : rowsChk L b.val = true)
    (inb : ∀ a, (![b.val, 0, 0, 0] : Fin 4 → ℕ) a + S1x64x2x128.size a ≤ S3x64x2x128.size a) (r : Fin 64) (p : Fin 2) (l : Fin 128) :
    View.readAt (Elt Ideal) M5.view (Rect.unit (s := S3x64x2x128) ![b.val, 0, 0, 0] S1x64x2x128.size inb).toLoadRect
        (M5.view.writes (Elt Ideal) M5.view.junk L) (ix4 (0 : Fin 1) r p l)
      = kept M1 M3 f1 f3 k b r.val p.val l := by
  rw [View.readAt_writes_junk_eq_canon]
  have e : (Rect.unit (s := S3x64x2x128) ![b.val, 0, 0, 0] S1x64x2x128.size inb).toLoadRect.idx (ix4 (0 : Fin 1) r p l) = ix4 b r p l := by
    funext a; apply Fin.ext
    fin_cases a
    · show b.val + 1 * 0 = b.val; omega
    · show 0 + 1 * r.val = r.val; omega
    · show 0 + 1 * p.val = p.val; omega
    · show 0 + 1 * l.val = l.val; omega
  show View.canon L _ = _
  rw [e, View.canon_apply_of_pieces (keptAll M1 M3 f1 f3 k) L hL _ (rows_cover L b.val h _ rfl)]
  rfl

end Cert.KernelIdeal.Own

end
-- ==== Proof.Ideal.Tile.lean ====
/-
  One trip's tile, element by element, over the reals: the product with the selection matrix moves every sum of the
  scratch to the column of its vector.
-/
module

public import proofs.«01_k».proof.Proof.Ideal.Slab

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx

variable (M1 : Memref sig .tc .vmem S3x24x2x8x128 .f32) (M2 : Memref sig .tc .vmem S32x128 .bf16)
  (M3 : Memref sig .tc .vmem S24x32x2048 .i8) (M5 : Memref sig .tc .vmem S3x64x2x128 .bf16)
  (f1 : Bf (F := Ideal) M1) (f2 : Bf (F := Ideal) M2) (f3 : Bf (F := Ideal) M3) (k : Fin k1_t1_loop.trips)

/-- The selection matrix: row `i` selects the four lanes `4 * i` to `4 * i + 3`. -/
def IsSel (sel : FVec Ideal S32x128 .bf16) : Prop :=
  ∀ (i : Fin 32) (l : Fin 128), sel (ix2 i l) = if l.val / 4 = i.val then (1 : EReal) else 0

/-- Selected lanes of a row kept on one residue: the one lane of both. -/
theorem sum_select (i : Fin 32) (a : ℕ) (ha : a < 4) (X : Fin 128 → EReal) :
    ∑ l : Fin 128, (if l.val / 4 = i.val then (1 : EReal) else 0) * (if l.val % 4 = a then X l else 0)
      = X ⟨4 * i.val + a, by omega⟩ := by
  rw [Finset.sum_eq_single (⟨4 * i.val + a, by omega⟩ : Fin 128)]
  · rw [if_pos (by show (4 * i.val + a) / 4 = i.val; omega), if_pos (by show (4 * i.val + a) % 4 = a; omega), one_mul]
  · intro l _ hne
    by_cases h : l.val / 4 = i.val
    · have h' : ¬ l.val % 4 = a := fun h' => hne (Fin.ext (show l.val = 4 * i.val + a by omega))
      rw [if_neg h', mul_zero]
    · rw [if_neg h, zero_mul]
  · intro h; exact absurd (Finset.mem_univ _) h

/-- A row of a tile, from the slab of the scratch it is made of. -/
theorem row_apply (sel : FVec Ideal S32x128 .bf16) (hsel : IsSel sel) (raw : Vec Ideal S1x64x2x128 .bf16) (b : Fin 3)
    (hraw : ∀ (r : Fin 64) (p : Fin 2) (l : Fin 128), raw (ix4 (0 : Fin 1) r p l) = kept M1 M3 f1 f3 k b r.val p.val l) (col : Fin 4096) :
    k1_pay798 raw sel (ix2 (0 : Fin 1) col)
      = acc M1 M3 f1 f3 k b ⟨col.val % 4, by omega⟩ (ix2 (⟨col.val % 32 / 4, by omega⟩ : Fin 8) (⟨col.val / 32, by omega⟩ : Fin 128)) := by
  show shapeCast S1x4096 (FloatOps.matmul (DotDims.transposedRhs 32 128 128) none (shapeCast S32x128 sel shapeCasts_S32x128_S32x128)
    (interleaveRows S128x128
      (shapeCast S64x128 (shapeCast S1x64x128 (rowsOfParity 0 S1x64x1x128 raw bitcasts_S1x64x2x128_w16_S1x64x1x128_w32) shapeCasts_S1x64x1x128_S1x64x128) shapeCasts_S1x64x128_S64x128)
      (shapeCast S64x128 (shapeCast S1x64x128 (rowsOfParity 1 S1x64x1x128 raw bitcasts_S1x64x2x128_w16_S1x64x1x128_w32) shapeCasts_S1x64x1x128_S1x64x128) shapeCasts_S1x64x128_S64x128)
      bitcasts_S128x128_w16_S64x128_w32) (constant (F := Ideal) S32x128 .f32 0x00000000#32)) shapeCasts_S32x128_S1x4096 (ix2 (0 : Fin 1) col) = _
  rw [shapeCast_apply _ _ _ (ix2 (⟨col.val / 128, by omega⟩ : Fin 32) (⟨col.val % 128, by omega⟩ : Fin 128)) (by
    rw [Shape.rowMajor_val_two, Shape.rowMajor_val_two]
    show col.val / 128 * 128 + col.val % 128 = 0 * 4096 + col.val
    omega), Ideal.matmul_transposedRhs_apply, show (constant (F := Ideal) S32x128 .f32 0x00000000#32) _ = (0 : EReal) from Ideal.ofBits_zero_f32,
    zero_add]
  have hterm : ∀ l : Fin 128, (shapeCast S32x128 sel shapeCasts_S32x128_S32x128) (ix2 (⟨col.val / 128, by omega⟩ : Fin 32) l)
      * interleaveRows S128x128
      (shapeCast S64x128 (shapeCast S1x64x128 (rowsOfParity 0 S1x64x1x128 raw bitcasts_S1x64x2x128_w16_S1x64x1x128_w32) shapeCasts_S1x64x1x128_S1x64x128) shapeCasts_S1x64x128_S64x128)
      (shapeCast S64x128 (shapeCast S1x64x128 (rowsOfParity 1 S1x64x1x128 raw bitcasts_S1x64x2x128_w16_S1x64x1x128_w32) shapeCasts_S1x64x1x128_S1x64x128) shapeCasts_S1x64x128_S64x128)
      bitcasts_S128x128_w16_S64x128_w32 (ix2 (⟨col.val % 128, by omega⟩ : Fin 128) l)
      = (if l.val / 4 = col.val / 128 then (1 : EReal) else 0) * (if l.val % 4 = col.val % 128 / 32 then
          acc M1 M3 f1 f3 k b ⟨col.val % 4, by omega⟩ (ix2 (⟨col.val % 32 / 4, by omega⟩ : Fin 8) l) else 0) := by
    intro l
    rw [shapeCast_apply sel shapeCasts_S32x128_S32x128 _ (ix2 (⟨col.val / 128, by omega⟩ : Fin 32) l) rfl, hsel,
      interleave2_apply, cast64_apply, cast64_apply, parity_apply, parity_apply, hraw, hraw]
    refine congrArg (fun z : EReal => (if l.val / 4 = col.val / 128 then (1 : EReal) else 0) * z) ?_
    have e : (if col.val % 128 % 2 = 0 then kept M1 M3 f1 f3 k b (col.val % 128 / 2) 0 l else kept M1 M3 f1 f3 k b (col.val % 128 / 2) 1 l)
        = kept M1 M3 f1 f3 k b (col.val % 128 / 2) (col.val % 2) l := by
      by_cases h : col.val % 128 % 2 = 0
      · rw [if_pos h, show col.val % 2 = 0 by omega]
      · rw [if_neg h, show col.val % 2 = 1 by omega]
    refine e.trans ?_
    unfold kept
    have q0 : col.val % 128 / 2 / 16 = col.val % 128 / 32 := by omega
    have q1 : (2 * (col.val % 128 / 2 % 2) + col.val % 2) % 4 = col.val % 4 := by omega
    have q2 : col.val % 128 / 2 % 16 / 2 = col.val % 32 / 4 := by omega
    simp only [q0, q1, q2]
  rw [Finset.sum_congr rfl fun l _ => hterm l, sum_select ⟨col.val / 128, by omega⟩ _ (by omega)]
  have q : 4 * (col.val / 128) + col.val % 128 / 32 = col.val / 32 := by omega
  simp only [q]

/-- The tile of trip `k`. -/
theorem tile_apply (hsel : IsSel (View.readAt (Elt Ideal) M2.view (Rect.unit (s := S32x128) ![0, 0] S32x128.size inb_S32x128_S32x128_0_0).toLoadRect f2))
    (b : Fin 3) (col : Fin 4096) :
    tile M1 M2 M3 M5 f1 f2 f3 k (ix2 b col)
      = acc M1 M3 f1 f3 k b ⟨col.val % 4, by omega⟩ (ix2 (⟨col.val % 32 / 4, by omega⟩ : Fin 8) (⟨col.val / 32, by omega⟩ : Fin 128)) := by
  unfold tile trip.sl.r_558 trip.sl.r_569 trip.sl.r_574 trip.sl.r_575
  rw [pieces0, pieces1, pieces2]
  generalize hS : View.readAt (Elt Ideal) M2.view (Rect.unit (s := S32x128) ![0, 0] S32x128.size inb_S32x128_S32x128_0_0).toLoadRect f2 = sel
  rw [hS] at hsel
  have h0 := slab_apply M1 M3 f1 f3 k M5 (grps M1 M3 f1 f3 k 0) 0 (grps_agree M1 M3 f1 f3 k 0) rfl inb_S3x64x2x128_S1x64x2x128_0_0_0_0
  have h1 := slab_apply M1 M3 f1 f3 k M5 (grps M1 M3 f1 f3 k 1 ++ grps M1 M3 f1 f3 k 0) 1 (fun p hp => by
    rcases List.mem_append.mp hp with h | h
    · exact grps_agree M1 M3 f1 f3 k 1 p h
    · exact grps_agree M1 M3 f1 f3 k 0 p h) rfl inb_S3x64x2x128_S1x64x2x128_1_0_0_0
  have h2 := slab_apply M1 M3 f1 f3 k M5 (grps M1 M3 f1 f3 k 2 ++ (grps M1 M3 f1 f3 k 1 ++ grps M1 M3 f1 f3 k 0)) 2 (fun p hp => by
    rcases List.mem_append.mp hp with h | h
    · exact grps_agree M1 M3 f1 f3 k 2 p h
    · rcases List.mem_append.mp h with h | h
      · exact grps_agree M1 M3 f1 f3 k 1 p h
      · exact grps_agree M1 M3 f1 f3 k 0 p h) rfl inb_S3x64x2x128_S1x64x2x128_2_0_0_0
  replace h0 := row_apply M1 M3 f1 f3 k sel hsel _ 0 h0 col
  replace h1 := row_apply M1 M3 f1 f3 k sel hsel _ 1 h1 col
  replace h2 := row_apply M1 M3 f1 f3 k sel hsel _ 2 h2 col
  refine (concatenate_ofFn_unit_apply (t := S3x4096) (s₁ := S1x4096) 0 (N := 3) ![k1_pay798 _ sel, k1_pay798 _ sel, k1_pay798 _ sel]
    concatenates_S1x4096_S1x4096_S1x4096_S3x4096_d0 rfl rfl (ix2 b col) b rfl (ix2 (0 : Fin 1) col) ?_).trans ?_
  · intro a ha
    match a with
    | ⟨0, _⟩ => exact absurd rfl ha
    | ⟨1, _⟩ => rfl
  · match b with
    | ⟨0, _⟩ => exact h0
    | ⟨1, _⟩ => exact h1
    | ⟨2, _⟩ => exact h2

end Cert.KernelIdeal.Own

end
-- ==== Proof.Ideal.Entry.lean ====
/-
  The sums of one trip, entry by entry, over the reals: the byte of the codes, the half of the table its top bit names,
  the lane its other bits name.
-/
module

public import proofs.«01_k».proof.Proof.Ideal.Tile
public import Idealize.ShloMosaic.Lib.BitcastFour
public import Idealize.ShloMosaic.Lib.WholeRead

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx

/-! ## The bits of a word -/

/-- A word whose low byte is `v` masked to seven bits. -/
theorem and127 (w : BitVec 32) (v : BitVec 8) (h : w.setWidth 8 = v) : (w &&& 127#32).toNat = v.toNat % 128 := by
  subst h
  rw [BitVec.toNat_and, show (127#32 : BitVec 32).toNat = 2 ^ 7 - 1 from rfl, Nat.and_two_pow_sub_one_eq_mod, BitVec.toNat_setWidth]
  omega

/-- A word whose low byte is `v` has bit seven exactly when `v` is 128 or more. -/
theorem and128 (w : BitVec 32) (v : BitVec 8) (h : w.setWidth 8 = v) :
    IntOp.cmpi .ne (w &&& 128#32) 0#32 = if 128 ≤ v.toNat then 1#1 else 0#1 := by
  subst h
  have e : w &&& 128#32 = (w.setWidth 8).setWidth 32 &&& 128#32 := by
    apply BitVec.eq_of_getLsbD_eq
    intro i hi
    have h128 : (128#32 : BitVec 32).getLsbD i = decide (i = 7) := by interval_cases i <;> rfl
    simp only [BitVec.getLsbD_and, BitVec.getLsbD_setWidth, h128]
    by_cases h : i = 7
    · subst h; simp
    · simp [h]
  rw [e]
  generalize w.setWidth 8 = v
  revert v
  decide +kernel

/-- The low bits of the words shifted by `s` bytes. -/
theorem shifted_bits (c : IVec S8x128 32) (s : Fin 4) (j : S8x128.Idx) (i : ℕ) (hi : i < 8) :
    (shifted c s j).getLsbD i = (c j).getLsbD (8 * s.val + i) := by
  match s with
  | ⟨0, _⟩ => exact congrArg (c j).getLsbD (show i = 8 * 0 + i by omega)
  | ⟨1, _⟩ =>
    show (IntOp.shrui .vector (c j) 8#32).getLsbD i = _
    unfold IntOp.shrui
    rw [if_pos (by decide), BitVec.ushiftRight_eq', BitVec.getLsbD_ushiftRight]; rfl
  | ⟨2, _⟩ =>
    show (IntOp.shrui .vector (c j) 16#32).getLsbD i = _
    unfold IntOp.shrui
    rw [if_pos (by decide), BitVec.ushiftRight_eq', BitVec.getLsbD_ushiftRight]; rfl
  | ⟨3, _⟩ =>
    show (IntOp.shrui .vector (c j) 24#32).getLsbD i = _
    unfold IntOp.shrui
    rw [if_pos (by decide), BitVec.ushiftRight_eq', BitVec.getLsbD_ushiftRight]; rfl

variable (M1 : Memref sig .tc .vmem S3x24x2x8x128 .f32) (h1 : M1.IsWhole) (M3 : Memref sig .tc .vmem S24x32x2048 .i8) (h3 : M3.IsWhole)
  (x1 : Vec Ideal S3x24x2x8x128 .f32) (x3 : Vec Ideal S24x32x2048 .i8) (k : Fin k1_t1_loop.trips)

theorem k_lt (k : Fin k1_t1_loop.trips) : k.val < 16 := trips_eq ▸ k.isLt

/-- The bits of the words of a subspace's codes. -/
theorem word_bits (m : Fin 24) (r : Fin 8) (l : Fin 128) (q : ℕ) (hq : q < 32) :
    (word M3 (h3.unread x3) k m (ix2 r l)).getLsbD q
      = (x3 (ix3 m (⟨4 * r.val + q / 8, by omega⟩ : Fin 32) (⟨128 * k.val + l.val, by have := k_lt k; omega⟩ : Fin 2048)) : BitVec 8).getLsbD (q % 8) := by
  have hk := k_lt k
  unfold word k1_pay3
  rw [bitcast_8_32_getLsbD_ix2 _ _ r l q hq (⟨4 * r.val + q / 8, by omega⟩ : Fin 32) rfl]
  refine congrArg (fun v : BitVec 8 => v.getLsbD (q % 8)) ?_
  refine (shapeCast_1ab_ab_apply _ shapeCasts_S1x32x128_S32x128 _ _).trans ?_
  refine (h3.readAt_unread x3 _ _).trans (congrArg x3 ?_)
  have ho := offs_eq k m
  funext a; apply Fin.ext
  match a with
  | ⟨0, _⟩ =>
    have h0 : offs k m 0 = m.val := congrFun ho 0
    show offs k m 0 + 1 * 0 = m.val
    omega
  | ⟨1, _⟩ =>
    have h0 : offs k m 1 = 0 := congrFun ho 1
    show offs k m 1 + 1 * (4 * r.val + q / 8) = 4 * r.val + q / 8
    omega
  | ⟨2, _⟩ =>
    have h0 : offs k m 2 = 128 * k.val := congrFun ho 2
    show offs k m 2 + 1 * l.val = 128 * k.val + l.val
    omega

/-- The low byte of the words shifted by `s` bytes. -/
theorem shifted_low (m : Fin 24) (s : Fin 4) (r : Fin 8) (l : Fin 128) :
    (shifted (word M3 (h3.unread x3) k m) s (ix2 r l)).setWidth 8
      = (x3 (ix3 m (⟨4 * r.val + s.val, by omega⟩ : Fin 32) (⟨128 * k.val + l.val, by have := k_lt k; omega⟩ : Fin 2048)) : BitVec 8) := by
  apply BitVec.eq_of_getLsbD_eq
  intro i hi
  rw [BitVec.getLsbD_setWidth, shifted_bits _ s _ i hi, word_bits M3 h3 x3 k m r l _ (by omega), decide_eq_true hi, Bool.true_and]
  have q0 : (8 * s.val + i) / 8 = s.val := by omega
  have q1 : (8 * s.val + i) % 8 = i := by omega
  simp only [q0, q1]

/-- Half `h` of a table, read. -/
theorem halfTab_apply (b : Fin 3) (m : Fin 24) (h : Fin 2) (r : Fin 8) (l : Fin 128) :
    halfTab M1 (h1.unread x1) b m h (ix2 r l) = x1 (ix5 b m h r l) := by
  unfold halfTab
  rw [shapeCast_apply _ _ _ (ix5 (0 : Fin 1) (0 : Fin 1) (0 : Fin 1) r l) (by
    rw [Shape.rowMajor_val_five, Shape.rowMajor_val_two]
    show (((0 * 1 + 0) * 1 + 0) * 8 + r.val) * 128 + l.val = r.val * 128 + l.val
    omega)]
  refine (h1.readAt_unread x1 _ _).trans (congrArg x1 ?_)
  funext a; apply Fin.ext
  match a with
  | ⟨0, _⟩ => show b.val + 1 * 0 = b.val; omega
  | ⟨1, _⟩ => show m.val + 1 * 0 = m.val; omega
  | ⟨2, _⟩ => show h.val + 1 * 0 = h.val; omega
  | ⟨3, _⟩ => show 0 + 1 * r.val = r.val; omega
  | ⟨4, _⟩ => show 0 + 1 * l.val = l.val; omega

/-- Entry `n` of row `r` of a table stored as two halves of 128 lanes. -/
def entry (b : Fin 3) (m : Fin 24) (r : Fin 8) (n : ℕ) : EReal :=
  x1 (ix5 b m (⟨n / 128 % 2, by omega⟩ : Fin 2) r (⟨n % 128, by omega⟩ : Fin 128))

/-- A lookup, read: the entry the low byte of the word names. -/
theorem look_apply (hi lo : FVec Ideal S8x128 .f32) (c : IVec S8x128 32) (r : Fin 8) (l : Fin 128) (v : BitVec 8)
    (hv : (c (ix2 r l)).setWidth 8 = v) :
    look hi lo c (ix2 r l)
      = if 128 ≤ v.toNat then hi (ix2 r (⟨v.toNat % 128, by omega⟩ : Fin 128)) else lo (ix2 r (⟨v.toNat % 128, by omega⟩ : Fin 128)) := by
  have hd : ∀ x : FVec Ideal S8x128 .f32,
      dynamicGather 1 x (shapeCast S8x128 (shapeCast S8x128x1 (andi c (broadcast S8x128 127#32)) shapeCasts_S8x128_S8x128x1) shapeCasts_S8x128x1_S8x128) (ix2 r l)
        = x (ix2 r (⟨v.toNat % 128, by omega⟩ : Fin 128)) := by
    intro x
    have hc : shapeCast S8x128 (shapeCast S8x128x1 (andi c (broadcast S8x128 127#32)) shapeCasts_S8x128_S8x128x1) shapeCasts_S8x128x1_S8x128 (ix2 r l)
        = c (ix2 r l) &&& 127#32 := by
      rw [shapeCast_apply _ _ _ (ix3 r l (0 : Fin 1)) (by
        rw [Shape.rowMajor_val_three, Shape.rowMajor_val_two]
        show (r.val * 128 + l.val) * 1 + 0 = r.val * 128 + l.val
        omega), shapeCast_apply _ _ _ (ix2 r l) (by
        rw [Shape.rowMajor_val_three, Shape.rowMajor_val_two]
        show r.val * 128 + l.val = (r.val * 128 + l.val) * 1 + 0
        omega)]
      rfl
    unfold dynamicGather
    refine congrArg x ?_
    funext a; apply Fin.ext
    match a with
    | ⟨0, _⟩ => rfl
    | ⟨1, _⟩ =>
      show (shapeCast S8x128 (shapeCast S8x128x1 (andi c (broadcast S8x128 127#32)) shapeCasts_S8x128_S8x128x1) shapeCasts_S8x128x1_S8x128 (ix2 r l)).toNat % 128
        = v.toNat % 128
      rw [hc, and127 _ v hv, Nat.mod_mod]
  show Scalar.select (IntOp.cmpi .ne (c (ix2 r l) &&& 128#32) 0#32) _ _ = _
  rw [hd, hd, and128 _ v hv]
  split <;> rfl

/-- Twenty-four vectors added, read. -/
theorem sum24_apply (v : Fin 24 → FVec Ideal S8x128 .f32) (j : S8x128.Idx) : sum24 v j = ∑ m : Fin 24, (v m j : EReal) := by
  simp only [Fin.sum_univ_castSucc, Fin.sum_univ_zero, zero_add]
  rfl

/-- One entry of a trip's sums. -/
theorem acc_apply (b : Fin 3) (s : Fin 4) (r : Fin 8) (l : Fin 128) :
    acc M1 M3 (h1.unread x1) (h3.unread x3) k b s (ix2 r l)
      = ∑ m : Fin 24, entry x1 b m r
          (x3 (ix3 m (⟨4 * r.val + s.val, by omega⟩ : Fin 32) (⟨128 * k.val + l.val, by have := k_lt k; omega⟩ : Fin 2048)) : BitVec 8).toNat := by
  unfold acc
  rw [sum24_apply]
  refine Finset.sum_congr rfl fun m _ => ?_
  rw [look_apply _ _ _ r l _ (shifted_low M3 h3 x3 k m s r l), halfTab_apply, halfTab_apply]
  generalize (x3 (ix3 m (⟨4 * r.val + s.val, by omega⟩ : Fin 32) (⟨128 * k.val + l.val, by have := k_lt k; omega⟩ : Fin 2048)) : BitVec 8) = v
  have hv : v.toNat < 256 := v.isLt
  unfold entry
  by_cases h : 128 ≤ v.toNat
  · rw [if_pos h]
    have e : (⟨v.toNat / 128 % 2, by omega⟩ : Fin 2) = 1 := Fin.ext (by show v.toNat / 128 % 2 = 1; omega)
    rw [e]
  · rw [if_neg h]
    have e : (⟨v.toNat / 128 % 2, by omega⟩ : Fin 2) = 0 := Fin.ext (by show v.toNat / 128 % 2 = 0; omega)
    rw [e]

end Cert.KernelIdeal.Own

end
-- ==== Proof.Ideal.Out.lean ====
/-
  What the distance kernel's body leaves in its output block, element by element, over the reals.
-/
module

public import proofs.«01_k».proof.Proof.Ideal.Entry

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx

variable (M1 : Memref sig .tc .vmem S3x24x2x8x128 .f32) (h1 : M1.IsWhole) (M2 : Memref sig .tc .vmem S32x128 .bf16) (h2 : M2.IsWhole)
  (M3 : Memref sig .tc .vmem S24x32x2048 .i8) (h3 : M3.IsWhole) (M5 : Memref sig .tc .vmem S3x64x2x128 .bf16)
  (x1 : Vec Ideal S3x24x2x8x128 .f32) (x2 : Vec Ideal S32x128 .bf16) (x3 : Vec Ideal S24x32x2048 .i8)

/-- The distance at row `b` and column `n`: the entries its codes name, added. The codes of column `n` are the bytes of
    row `n % 32` at column `n / 32`, the tables' rows are eight equal copies, of which row `n % 32 / 4` is read. -/
def distAt {C : ℕ} (x3 : (⟨3, ![24, 32, C]⟩ : Shape).Idx → BitVec 8) (b : Fin 3) (n : ℕ) (hn : n < 32 * C) : EReal :=
  ∑ m : Fin 24, entry x1 b m (⟨n % 32 / 4, by omega⟩ : Fin 8)
    (x3 (ix3 m (⟨n % 32, by omega⟩ : Fin 32) (⟨n / 32, by omega⟩ : Fin C))).toNat

/-- The block as one function of its index. -/
def blockVal (y : S3x65536.Idx) : EReal := distAt x1 (C := 2048) x3 (y 0) (y 1).val (y 1).isLt

/-- Every piece is the tile of some trip. -/
theorem eq_piece {F : FTy → Type} [FloatOps F] (f1 : Bf (F := F) M1) (f2 : Bf (F := F) M2) (f3 : Bf (F := F) M3) :
    ∀ (n : ℕ) (p : View.Piece (Elt F) S3x65536 .bf16), p ∈ pb M1 M2 M3 M5 f1 f2 f3 n → ∃ k, p = piece M1 M2 M3 M5 f1 f2 f3 k
  | 0, p, hp => by simp [pb] at hp
  | n + 1, p, hp => by
    rw [pb.eq_2] at hp
    rcases List.mem_append.mp hp with h | h
    · by_cases hn : n < k1_t1_loop.trips
      · rw [dif_pos hn] at h
        exact ⟨⟨n, hn⟩, by simpa using h⟩
      · rw [dif_neg hn] at h
        simp at h
    · exact eq_piece f1 f2 f3 n p h

/-- A load of the whole selection matrix reads it. -/
theorem sel_read : View.readAt (Elt Ideal) M2.view (Rect.unit (s := S32x128) ![0, 0] S32x128.size inb_S32x128_S32x128_0_0).toLoadRect (h2.unread x2) = x2 :=
  funext fun j => (h2.readAt_unread x2 _ j).trans (congrArg x2 (by
    funext a; apply Fin.ext
    match a with
    | ⟨0, _⟩ => show 0 + 1 * (j 0).val = (j 0).val; omega
    | ⟨1, _⟩ => show 0 + 1 * (j 1).val = (j 1).val; omega))

/-- The tile of trip `k` is the columns `4096 * k` to `4096 * k + 4095` of the block's function. -/
theorem piece_agrees (hsel : IsSel x2) (k : Fin k1_t1_loop.trips)
    (x : (piece M1 M2 M3 M5 (h1.unread x1) (h2.unread x2) (h3.unread x3) k).1.shape.Idx) :
    (piece M1 M2 M3 M5 (h1.unread x1) (h2.unread x2) (h3.unread x3) k).2 x
      = blockVal x1 x3 ((piece M1 M2 M3 M5 (h1.unread x1) (h2.unread x2) (h3.unread x3) k).1.emb x) := by
  obtain ⟨b, col, rfl⟩ : ∃ (b : Fin 3) (col : Fin 4096), x = ix2 b col := ⟨x 0, x 1, eq_ix2 x⟩
  have hk := k_lt k
  have ho0 : k1_off25 k 0 = 0 := congrFun (k1_off25_eq k) 0
  have ho1 : k1_off25 k 1 = 4096 * k.val := congrFun (k1_off25_eq k) 1
  refine (tile_apply M1 M2 M3 M5 _ _ _ k (by rw [sel_read]; exact hsel) b col).trans ?_
  rw [acc_apply]
  have e0 : ((piece M1 M2 M3 M5 (h1.unread x1) (h2.unread x2) (h3.unread x3) k).1.emb (ix2 b col) 0) = b :=
    Fin.ext (by show k1_off25 k 0 + 1 * b.val = b.val; omega)
  have e1 : ((piece M1 M2 M3 M5 (h1.unread x1) (h2.unread x2) (h3.unread x3) k).1.emb (ix2 b col) 1).val = 4096 * k.val + col.val := by
    show k1_off25 k 1 + 1 * col.val = _; omega
  unfold blockVal distAt
  simp only [e0, e1]
  refine Finset.sum_congr rfl fun m _ => ?_
  have q0 : (4096 * k.val + col.val) % 32 = col.val % 32 := by omega
  have q1 : (4096 * k.val + col.val) / 32 = 128 * k.val + col.val / 32 := by omega
  have q2 : 4 * (col.val % 32 / 4) + col.val % 4 = col.val % 32 := by omega
  simp only [q0, q1, q2]

/-- The output block. -/
theorem out1_apply (hsel : IsSel x2) (y : S3x65536.Idx) :
    out1 M1 h1 M2 h2 M3 h3 M5 x1 x2 x3 y = blockVal x1 x3 y := by
  unfold out1
  refine View.canon_apply_of_pieces (Val := Elt Ideal) (e := .bf16) (blockVal x1 x3 : S3x65536.Idx → Elt Ideal .bf16) _ (fun p hp x => ?_) y (pb_cover M1 M2 M3 M5 _ _ _ y)
  obtain ⟨k, rfl⟩ := eq_piece M1 M2 M3 M5 _ _ _ _ p hp
  exact piece_agrees M1 h1 M2 h2 M3 h3 M5 x1 x2 x3 hsel k x

end Cert.KernelIdeal.Own

end
-- ==== Proof.Ideal.Arr1.lean ====
/-
  The array of distances after the distance kernel's grid, element by element, over the reals.
-/
module

public import proofs.«01_k».proof.Proof.Ideal.Out
public import proofs.«01_k».proof.Proof.Ideal.Region1
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx
open Idealize.ShloMosaic.Pipeline (Dat)

variable (W : Dev nD → Valuation τ sig (Elt Ideal)) (c : Dev nD)

/-- The tables, the selection matrix and the codes, as the distance kernel's region finds them. -/
def tabs : S3x24x2x8x128.Idx → EReal := W c (Proc.devRef .tc main_v4)
def sels : FVec Ideal S32x128 .bf16 := W c (Proc.devRef .tc main_v9)
def codes : S24x32x131072.Idx → BitVec 8 := W c (Proc.devRef .tc main_v10)

theorem index1_0 : ∀ (t : Fin grid1.N) (a : Fin 5), win1_0.index t a = 0 := by decide +kernel
theorem index1_1 : ∀ (t : Fin grid1.N) (a : Fin 2), win1_1.index t a = 0 := by decide +kernel
theorem index1_2 : ∀ t : Fin grid1.N, win1_2.index t 0 = 0 ∧ win1_2.index t 1 = 0 ∧ win1_2.index t 2 = t.val := by decide +kernel
theorem index1_3 : ∀ t : Fin grid1.N, win1_3.index t 0 = 0 ∧ win1_3.index t 1 = t.val := by decide +kernel

theorem t_lt (t : Fin cfg1.N) : t.val < 64 := by
  have h := t.isLt; have hN : cfg1.N = 64 := N_1; omega

/-- The tables' block is the whole array at every point. -/
theorem blk1_0_eq (t : Fin cfg1.N) : (blk1 W c 0 t : S3x24x2x8x128.Idx → EReal) = tabs W c := by
  funext y
  show tabs W c ((win1_0.rect t).emb y) = tabs W c y
  congr 1; funext a; apply Fin.ext
  exact win1_0.rect_emb_val_of_index_zero t a (index1_0 t a) y

/-- The selection matrix's block is the whole array at every point. -/
theorem blk1_1_eq (t : Fin cfg1.N) : (blk1 W c 1 t : FVec Ideal S32x128 .bf16) = sels W c := by
  funext y
  show sels W c ((win1_1.rect t).emb y) = sels W c y
  congr 1; funext a; apply Fin.ext
  exact win1_1.rect_emb_val_of_index_zero t a (index1_1 t a) y

/-- The codes' block at point `t` is columns `2048 * t` to `2048 * t + 2047`. -/
theorem blk1_2_apply (t : Fin cfg1.N) (m : Fin 24) (r : Fin 32) (l : Fin 2048) (q : Fin 131072) (hq : q.val = 2048 * t.val + l.val) :
    (blk1 W c 2 t : S24x32x2048.Idx → BitVec 8) (ix3 m r l) = codes W c (ix3 m r q) := by
  show codes W c ((win1_2.rect t).emb (ix3 m r l)) = codes W c (ix3 m r q)
  obtain ⟨i0, i1, i2⟩ := index1_2 t
  congr 1; funext a; apply Fin.ext
  match a with
  | ⟨0, _⟩ => exact win1_2.rect_emb_val_of_index_zero t 0 i0 (ix3 m r l)
  | ⟨1, _⟩ => exact win1_2.rect_emb_val_of_index_zero t 1 i1 (ix3 m r l)
  | ⟨2, _⟩ =>
    refine (win1_2.rect_emb_val t (ix3 m r l) 2).trans ?_
    rw [i2]
    show t.val * 2048 + l.val = q.val
    omega

/-- The distances as one function of the index. -/
def distVal (i : S3x4194304.Idx) : EReal := distAt (tabs W c) (C := 131072) (codes W c) (i 0) (i 1).val (i 1).isLt

/-- What point `t` writes back is block `t` of that function. -/
theorem flushed1_eq (hsel : IsSel (sels W c)) (t : Fin cfg1.N) :
    (dat1 W c).flushed 3 t = ((cfg1.win 3).blk t).view.read (Elt Ideal) (distVal W c) := by
  show (cfg1.win 3).cut (grid1.coords t) ((dat1 W c).after 3 t) = _
  rw [after1_3]
  funext y
  obtain ⟨b, n, rfl⟩ : ∃ (b : Fin 3) (n : Fin 65536), y = ix2 b n := ⟨y 0, y 1, eq_ix2 y⟩
  show outAt1 t (blk1 W c 0 t) (blk1 W c 1 t) (blk1 W c 2 t) (ix2 b n) = distVal W c ((win1_3.rect t).emb (ix2 b n))
  unfold outAt1
  rw [show (blk1 W c 1 t) = sels W c from blk1_1_eq W c t]
  refine (out1_apply (hsel := hsel) ..).trans ?_
  obtain ⟨i0, i1⟩ := index1_3 t
  have ht := t_lt t
  have e0 : (win1_3.rect t).emb (ix2 b n) 0 = b := Fin.ext (win1_3.rect_emb_val_of_index_zero t 0 i0 (ix2 b n))
  have e1 : ((win1_3.rect t).emb (ix2 b n) 1).val = 65536 * t.val + n.val := by
    refine (win1_3.rect_emb_val t (ix2 b n) 1).trans ?_
    rw [i1]
    show t.val * 65536 + n.val = _
    omega
  unfold blockVal distVal distAt
  rw [show (blk1 W c 0 t : S3x24x2x8x128.Idx → EReal) = tabs W c from blk1_0_eq W c t]
  simp only [e0, e1]
  refine Finset.sum_congr rfl fun m _ => ?_
  have q0 : (65536 * t.val + n.val) % 32 = n.val % 32 := by omega
  simp only [q0]
  exact congrArg (fun z : BitVec 8 => entry (tabs W c) b m (⟨n.val % 32 / 4, by omega⟩ : Fin 8) z.toNat)
    (blk1_2_apply W c t m ⟨n.val % 32, by omega⟩ ⟨n.val / 32, by omega⟩ ⟨(65536 * t.val + n.val) / 32, by omega⟩ (by show (65536 * t.val + n.val) / 32 = 2048 * t.val + n.val / 32; omega))

/-- The blocks cover the array. -/
theorem cover1 (i : S3x4194304.Idx) :
    ∃ t : Fin cfg1.N, (cfg1.win 3).flush t = true ∧ i ∈ ((cfg1.win 3).blk t).view.set := by
  have h0 : (i 0 : Nat) < 3 := (i 0).isLt
  have h1 : (i 1 : Nat) < 4194304 := (i 1).isLt
  have hN : cfg1.N = 64 := N_1
  obtain ⟨t, ht⟩ : ∃ t : Fin cfg1.N, t.val = (i 1 : Nat) / 65536 := ⟨⟨(i 1 : Nat) / 65536, by omega⟩, rfl⟩
  refine ⟨t, flush1_3 t, ?_⟩
  show i ∈ ((View.whole main_v11).slice (win1_3.rect t)).set
  rw [View.set_slice_whole, Rect.mem_set_unit]
  obtain ⟨i0, i1⟩ := index1_3 t
  intro a
  match a with
  | ⟨0, _⟩ =>
    show win1_3.index t 0 * 3 ≤ (i 0 : Nat) ∧ (i 0 : Nat) < win1_3.index t 0 * 3 + 3
    rw [i0]; omega
  | ⟨1, _⟩ =>
    show win1_3.index t 1 * 65536 ≤ (i 1 : Nat) ∧ (i 1 : Nat) < win1_3.index t 1 * 65536 + 65536
    rw [i1]; omega

/-- The array of distances after the grid. -/
theorem arr1 (hsel : IsSel (sels W c)) : (dat1 W c).arrAt 3 cfg1.N = distVal W c :=
  (dat1 W c).arrAt_eq_of_cover 3 (distVal W c) (fun t _ => flushed1_eq W c hsel t) cover1

end Cert.KernelIdeal.Own

end
-- ==== Proof.Ideal.Arr0.lean ====
/-
  The distance table after the table kernel, element by element, over the reals.
-/
module

public import proofs.«01_k».proof.Proof.Ideal.Region0
public import Idealize.ShloMosaic.Lib.Pipeline.Value
public import Idealize.ShloMosaic.Lib.ValueLayout
public import Idealize.ShloMosaic.Lib.MatmulPlain

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx
open Idealize.ShloMosaic.Pipeline (Dat)

/-- The table's entry: the squared distance of piece `m` of vector `b` to code vector `k` of that piece. -/
def lutAt (x : S3x24x40x1.Idx → EReal) (y : S24x40x256.Idx → EReal) (b : Fin 3) (m : Fin 24) (k : Fin 256) : EReal :=
  ∑ d : Fin 40, (x (ix4 b m d 0) - y (ix3 m d k)) * (x (ix4 b m d 0) - y (ix3 m d k))

/-- One vector's rows of the table, from its pieces and the code vectors. -/
theorem pay_apply (v : FVec Ideal S24x40x1 .f32) (y : FVec Ideal S24x40x256 .f32) (m : Fin 24) (k : Fin 256) :
    k0_pay1 v y (ix3 0 m k) = ∑ d : Fin 40, ((v (ix3 m d 0) : EReal) - y (ix3 m d k)) * (v (ix3 m d 0) - y (ix3 m d k)) := by
  unfold k0_pay1
  refine (shapeCast_ab_1ab_apply ..).trans ?_
  refine (Ideal.multiReduction_add_single (φ := .f32) ..).trans ?_
  refine Finset.sum_congr rfl fun d _ => ?_
  have e : reduces_S24x40x256_S24x256.lift (ix2 m k) d = ix3 m d k := by
    funext a; apply Fin.ext
    match a with
    | ⟨0, _⟩ => rfl
    | ⟨1, _⟩ => rfl
    | ⟨2, _⟩ => rfl
  have hb : broadcastTo S24x40x256 v broadcasts_S24x40x1_S24x40x256 (ix3 m d k) = v (ix3 m d 0) :=
    broadcastTo_apply _ _ _ _ fun a => by
      match a with
      | ⟨0, _⟩ => rfl
      | ⟨1, _⟩ => rfl
      | ⟨2, _⟩ => rfl
  rw [e]
  show (broadcastTo S24x40x256 v broadcasts_S24x40x1_S24x40x256 (ix3 m d k) - y (ix3 m d k))
    * (broadcastTo S24x40x256 v broadcasts_S24x40x1_S24x40x256 (ix3 m d k) - y (ix3 m d k)) = _
  rw [hb]

/-- The loads drop an axis of one, and nothing else changes. -/
theorem load_apply (x : S1x24x40x1.Idx → EReal) (m : Fin 24) (d : Fin 40) :
    k0_pay4 (F := Ideal) x (ix3 m d 0) = x (ix4 0 m d 0) :=
  shapeCast_1abc_abc_apply (α := EReal) x shapeCasts_S1x24x40x1_S24x40x1 m d 0

theorem same_apply (y : S24x40x256.Idx → EReal) (j : S24x40x256.Idx) : k0_pay5 (F := Ideal) y j = y j :=
  shapeCast_apply (α := EReal) y shapeCasts_S24x40x256_S24x40x256 j j rfl

/-- The other two stores' payloads are the same computation. -/
theorem pay2_eq (x : Vec Ideal S1x24x40x1 .bf16) (y : Vec Ideal S24x40x256 .f32) : k0_pay2 x y = k0_pay1 (k0_pay4 x) (k0_pay5 y) := rfl
theorem pay3_eq (x : Vec Ideal S1x24x40x1 .bf16) (y : Vec Ideal S24x40x256 .f32) : k0_pay3 x y = k0_pay1 (k0_pay4 x) (k0_pay5 y) := rfl

variable (x : S3x24x40x1.Idx → EReal) (y : S24x40x256.Idx → EReal)

/-- The table as one function of its index. -/
def lutVal (i : S3x24x256.Idx) : EReal := lutAt x y (i 0) (i 1) (i 2)

/-- One store's payload is its row of that function: the row of vector `b`, loaded from the vectors' row `b`. -/
theorem row_agrees (b : Fin 3) (R : S1x24x256.Idx → S3x24x256.Idx)
    (xb : S1x24x40x1.Idx → EReal) (yb : S24x40x256.Idx → EReal)
    (hx : ∀ (m : Fin 24) (d : Fin 40), xb (ix4 0 m d 0) = x (ix4 b m d 0)) (hy : yb = y)
    (hR : ∀ (m : Fin 24) (k : Fin 256), R (ix3 0 m k) = ix3 b m k) (j : S1x24x256.Idx) :
    k0_pay1 (F := Ideal) (k0_pay4 (F := Ideal) xb) (k0_pay5 (F := Ideal) yb) j = lutVal x y (R j) := by
  subst hy
  obtain ⟨z, m, k, rfl⟩ : ∃ (z : Fin 1) (m : Fin 24) (k : Fin 256), j = ix3 z m k := ⟨j 0, j 1, j 2, eq_ix3 j⟩
  obtain rfl : z = 0 := Subsingleton.elim (α := Fin 1) _ _
  rw [hR]
  refine (pay_apply _ _ m k).trans ?_
  show _ = lutAt x yb b m k
  unfold lutAt
  refine Finset.sum_congr rfl fun d _ => ?_
  rw [load_apply, same_apply, hx]

/-- What the table kernel leaves in its output block. -/
theorem out0_apply (i : S3x24x256.Idx) : out0_2 (F := Ideal) x y i = lutVal x y i := by
  unfold out0_2
  have hy : View.ld (Val := Elt Ideal) (e' := .f32) y r0_1 = y :=
    funext fun j => congrArg y (funext fun a => Fin.ext (by
      match a with
      | ⟨0, _⟩ => show 0 + 1 * (j 0).val = (j 0).val; omega
      | ⟨1, _⟩ => show 0 + 1 * (j 1).val = (j 1).val; omega
      | ⟨2, _⟩ => show 0 + 1 * (j 2).val = (j 2).val; omega))
  have hld : ∀ (b : Fin 3) (off : Fin 4 → ℕ) (inb) (ho : off = ![b.val, 0, 0, 0]) (m : Fin 24) (d : Fin 40),
      View.ld (Val := Elt Ideal) (e' := .bf16) x (Rect.unit (s := S3x24x40x1) off S1x24x40x1.size inb) (ix4 0 m d 0) = x (ix4 b m d 0) := by
    rintro b _ inb rfl m d
    refine congrArg x (funext fun a => Fin.ext ?_)
    match a with
    | ⟨0, _⟩ => show b.val + 1 * 0 = b.val; omega
    | ⟨1, _⟩ => show 0 + 1 * m.val = m.val; omega
    | ⟨2, _⟩ => show 0 + 1 * d.val = d.val; omega
    | ⟨3, _⟩ => rfl
  have hem : ∀ (b : Fin 3) (off : Fin 3 → ℕ) (inb) (ho : off = ![b.val, 0, 0]) (m : Fin 24) (k : Fin 256),
      (Rect.unit (s := S3x24x256) off S1x24x256.size inb).emb (ix3 0 m k) = ix3 b m k := by
    rintro b _ inb rfl m k
    refine funext fun a => Fin.ext ?_
    match a with
    | ⟨0, _⟩ => show b.val + 1 * 0 = b.val; omega
    | ⟨1, _⟩ => show 0 + 1 * m.val = m.val; omega
    | ⟨2, _⟩ => show 0 + 1 * k.val = k.val; omega
  refine View.canon_apply_of_pieces (Val := Elt Ideal) (e := .f32) (lutVal x y : S3x24x256.Idx → Elt Ideal .f32) _ (fun p hp j => ?_) i (cover0_2 _ _ _ i)
  simp only [List.mem_cons, List.not_mem_nil, or_false] at hp
  rcases hp with rfl | rfl | rfl
  · exact row_agrees x y 2 r0_6.emb _ _ (hld 2 _ _ rfl) hy (hem 2 _ _ rfl) j
  · exact row_agrees x y 1 r0_4.emb _ _ (hld 1 _ _ rfl) hy (hem 1 _ _ rfl) j
  · exact row_agrees x y 0 r0_2.emb _ _ (hld 0 _ _ rfl) hy (hem 0 _ _ rfl) j

variable (W : Dev nD → Valuation τ sig (Elt Ideal)) (c : Dev nD)

/-- The vectors' pieces and the code vectors, as the table kernel's region finds them. -/
def vecs : S3x24x40x1.Idx → EReal := W c (Proc.devRef .tc main_v0)
def books : S24x40x256.Idx → EReal := W c (Proc.devRef .tc main_v1)

theorem index0_0 : ∀ (t : Fin grid0.N) (a : Fin 4), win0_0.index t a = 0 := by decide +kernel
theorem index0_1 : ∀ (t : Fin grid0.N) (a : Fin 3), win0_1.index t a = 0 := by decide +kernel
theorem index0_2 : ∀ (t : Fin grid0.N) (a : Fin 3), win0_2.index t a = 0 := by decide +kernel

theorem blk0_0_eq (t : Fin cfg0.N) : (blk0 W c 0 t : S3x24x40x1.Idx → EReal) = vecs W c := by
  funext y
  show vecs W c ((win0_0.rect t).emb y) = vecs W c y
  congr 1; funext a; apply Fin.ext
  exact win0_0.rect_emb_val_of_index_zero t a (index0_0 t a) y

theorem blk0_1_eq (t : Fin cfg0.N) : (blk0 W c 1 t : S24x40x256.Idx → EReal) = books W c := by
  funext y
  show books W c ((win0_1.rect t).emb y) = books W c y
  congr 1; funext a; apply Fin.ext
  exact win0_1.rect_emb_val_of_index_zero t a (index0_1 t a) y

/-- What the one point writes back is the whole table. -/
theorem flushed0_eq (t : Fin cfg0.N) :
    (dat0 W c).flushed 2 t = ((cfg0.win 2).blk t).view.read (Elt Ideal) (lutVal (vecs W c) (books W c)) := by
  show (cfg0.win 2).cut (grid0.coords t) ((dat0 W c).after 2 t) = _
  rw [after0_2]
  funext y
  show out0_2 (blk0 W c 0 t) (blk0 W c 1 t) y = lutVal (vecs W c) (books W c) ((win0_2.rect t).emb y)
  rw [show (blk0 W c 0 t) = vecs W c from blk0_0_eq W c t, show (blk0 W c 1 t) = books W c from blk0_1_eq W c t]
  refine (out0_apply _ _ _).trans (congrArg _ ?_)
  funext a; apply Fin.ext
  exact (win0_2.rect_emb_val_of_index_zero t a (index0_2 t a) y).symm

/-- The one block covers the table. -/
theorem cover0 (i : S3x24x256.Idx) :
    ∃ t : Fin cfg0.N, (cfg0.win 2).flush t = true ∧ i ∈ ((cfg0.win 2).blk t).view.set := by
  have h0 : (i 0 : Nat) < 3 := (i 0).isLt
  have h1 : (i 1 : Nat) < 24 := (i 1).isLt
  have h2 : (i 2 : Nat) < 256 := (i 2).isLt
  obtain ⟨t⟩ : Nonempty (Fin cfg0.N) := ⟨t0_0⟩
  refine ⟨t, flush0_2 t, ?_⟩
  show i ∈ ((View.whole main_v2).slice (win0_2.rect t)).set
  rw [View.set_slice_whole, Rect.mem_set_unit]
  intro a
  match a with
  | ⟨0, _⟩ =>
    show win0_2.index t 0 * 3 ≤ (i 0 : Nat) ∧ (i 0 : Nat) < win0_2.index t 0 * 3 + 3
    rw [index0_2 t 0]; omega
  | ⟨1, _⟩ =>
    show win0_2.index t 1 * 24 ≤ (i 1 : Nat) ∧ (i 1 : Nat) < win0_2.index t 1 * 24 + 24
    rw [index0_2 t 1]; omega
  | ⟨2, _⟩ =>
    show win0_2.index t 2 * 256 ≤ (i 2 : Nat) ∧ (i 2 : Nat) < win0_2.index t 2 * 256 + 256
    rw [index0_2 t 2]; omega

/-- The table after the table kernel. -/
theorem arr0 : (dat0 W c).arrAt 2 cfg0.N = lutVal (vecs W c) (books W c) :=
  (dat0 W c).arrAt_eq_of_cover 2 (lutVal (vecs W c) (books W c)) (fun t _ => flushed0_eq W c t) cover0

end Cert.KernelIdeal.Own

end
-- ==== Proof.Ideal.HostVal.lean ====
/-
  What the host operations around the two kernels leave, element by element.
-/
module

public import proofs.«01_k».proof.Proof.Ideal.Arr1
public import proofs.«01_k».proof.Proof.Ideal.Arr0
public import proofs.«01_k».proof.Proof.Gen.KernelIdeal.Regions
public import Idealize.ShloMosaic.Lib.StableHlo.Run

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx Idealize.ShloMosaic.StableHlo

variable {F : FTy → Type} [FloatOps F] (V : Valuation τ sig (Elt F))

/-! ## The results of each stretch -/

theorem stretch0_v0 : StableHlo.after hostOps0 V (Proc.devRef .tc main_v0) = shapeCast S3x24x40x1 (V (Proc.devRef .tc main_arg0)) shapeCasts_S3x960_S3x24x40x1 := by
  simp only [hostOps0]; after_results <;> rfl
theorem stretch0_v1 : StableHlo.after hostOps0 V (Proc.devRef .tc main_v1) = transpose S24x40x256 [0, 2, 1] (V (Proc.devRef .tc main_arg1)) transposes_S24x256x40_S24x40x256_0_2_1 := by
  simp only [hostOps0]; after_results <;> rfl

theorem stretch1_v4 : StableHlo.after hostOps1 V (Proc.devRef .tc main_v4)
    = broadcastInDim S3x24x2x8x128 ![0, 1, 2, 3, 4] bcast_S3x24x2x1x128_S3x24x2x8x128_0_1_2_3_4
      (shapeCast S3x24x2x1x128 (V (Proc.devRef .tc main_v2)) shapeCasts_S3x24x256_S3x24x2x1x128) := by
  simp only [hostOps1]; after_results <;> rfl
theorem stretch1_v5 : StableHlo.after hostOps1 V (Proc.devRef .tc main_v5) = iotaInDim S32x128 32 1 := by
  simp only [hostOps1]; after_results <;> rfl
theorem stretch1_c : StableHlo.after hostOps1 V (Proc.devRef .tc main_c) = constantI S_ 32 4#32 := by
  simp only [hostOps1]; after_results <;> rfl

/-- The quotient rounded down, of words: the truncating quotient, less one where the signs differ and the remainder is not
    zero. -/
def floorDiv (x : IVec S32x128 32) (y : IVec S_ 32) : IVec S32x128 32 :=
  select (andi (cmpi .ne (signi x) (broadcastInDim S32x128 ![] bcast_S_S32x128 (signi y)))
      (cmpi .ne (Host.remsi x (broadcastInDim S32x128 ![] bcast_S_S32x128 y)) (broadcastInDim S32x128 ![] bcast_S_S32x128 (constantI S_ 32 0#32))))
    (subi (Host.divsi x (broadcastInDim S32x128 ![] bcast_S_S32x128 y)) (broadcastInDim S32x128 ![] bcast_S_S32x128 (constantI S_ 32 1#32)))
    (Host.divsi x (broadcastInDim S32x128 ![] bcast_S_S32x128 y))

theorem stretch2_v6 : StableHlo.after hostOps1_1 V (Proc.devRef .tc main_v6) = floorDiv (V (Proc.devRef .tc main_v5)) (V (Proc.devRef .tc main_c)) := by
  simp only [hostOps1_1, TRef.binary, TRef.nullary, TRef.ternary, TRef.unary, TRef.toBuf, TRef.ofBuf, cast_eq]; after_results <;> rfl

theorem stretch3_v9 : StableHlo.after hostOps1_2 V (Proc.devRef .tc main_v9)
    = uitofp .bf16 (cmpi .eq (V (Proc.devRef .tc main_v6) : IVec S32x128 32) (iotaInDim S32x128 32 0)) := by
  simp only [hostOps1_2]; after_results <;> rfl
theorem stretch3_v10 : StableHlo.after hostOps1_2 V (Proc.devRef .tc main_v10)
    = transpose S24x32x131072 [1, 2, 0] (V (Proc.devRef .tc main_arg2)) transposes_S131072x24x32_S24x32x131072_1_2_0 := by
  simp only [hostOps1_2]; after_results <;> rfl

end Cert.KernelIdeal.Own

end
-- ==== Proof.Ideal.RunAll.lean ====
/-
  The whole program's run with what every buffer holds at the end.
-/
module

public import proofs.«01_k».proof.Proof.Ideal.Run

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

variable (m : (ℓ : Loc nD τ sig) → Buf (Elt F) ℓ)

/-- Every weakly fair execution ends with each unscoped buffer at the last valuation, given the two regions as segments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD, ∀ b ∈ Pipeline.ucRefs τ sig,
      r.2.mem ((c.tc : Thread nD τ).1, b) = V6 m outs c b) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, .rfl, .rfl, hpre1 c, (hpost1 c).trans (sep_mono .rfl (hE2 c))⟩)
    (hinit := ?_) (QY := fun c s => ∀ b ∈ Pipeline.ucRefs τ sig, s.mem ((c.tc : Thread nD τ).1, b) = V6 m outs c b)
    (hfin := fun c s' => ?_) (hQ := fun _ h _ => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

/-- The resource algebra. -/
local notation "𝕄" => MT nD τ sig Unit (Elt F) ℕ (UR sig nD τ) ℕ

variable (ρ : Dev nD → PrngReg)

set_option backward.isDefEq.respectTransparency.types false in
/-- Every weakly fair execution from any memory with zero counters ends with each buffer at what the host operations and
    the two regions leave. -/
theorem run : θ_run defs (onTc (τ := τ) (main (F := F))) ⟨m, fun _ => 0, ρ⟩ (fun r => ∀ c : Dev nD,
      ∀ b ∈ Pipeline.ucRefs τ sig, r.2.mem ((c.tc : Thread nD τ).1, b) = V6 m (outs m) c b) :=
  run_cond m emb₁ () Variants.none L lv (fun g h => if_neg h) ρ (outs m) (pdats m) 0 (fun _ => iprop(emp))
    (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, -, -⟩, -⟩
      imodintro
      iexists ∅; iexact HO)
    (fun c => .rfl) (R0 m) (pre0 m) (post0 m) (R1 m) (pre1 m) (post1 m)

end Cert.KernelIdeal.Own

end
-- ==== Proof.Ideal.Spec.lean ====
/-
  The two results as plain sums over the arguments, for the kernel and the reference to be compared with.
-/
module

public import Idealize.ShloMosaic.Lib.ValueLayout
public import Idealize.ShloMosaic.Lib.MatmulPlain

@[expose] public section

noncomputable section

namespace Cert.Spec

open Idealize.ShloMosaic Idealize.ShloMosaic.ValueIdx

variable (X : (⟨2, ![3, 960]⟩ : Shape).Idx → EReal) (Y : (⟨3, ![24, 256, 40]⟩ : Shape).Idx → EReal)
  (C : (⟨3, ![131072, 24, 32]⟩ : Shape).Idx → BitVec 8)

/-- The table: the squared distance of piece `m` of vector `b` to code vector `k` of that piece. -/
def lut (b : Fin 3) (m : Fin 24) (k : Fin 256) : EReal :=
  ∑ d : Fin 40, (X (ix2 b (⟨40 * m.val + d.val, by omega⟩ : Fin 960)) - Y (ix3 m k d)) * (X (ix2 b (⟨40 * m.val + d.val, by omega⟩ : Fin 960)) - Y (ix3 m k d))

/-- The distance of vector `b` to item `n`: the table's entries at the item's codes, added. -/
def dist (b : Fin 3) (n : Fin 4194304) : EReal :=
  ∑ m : Fin 24, lut X Y b m ⟨(C (ix3 (⟨n.val / 32, by omega⟩ : Fin 131072) m (⟨n.val % 32, by omega⟩ : Fin 32))).toNat, BitVec.isLt _⟩

end Cert.Spec

end
-- ==== Proof.Ideal.Final.lean ====
/-
  The kernel's two results as plain sums over its arguments, over the reals.
-/
module

public import proofs.«01_k».proof.Proof.Ideal.HostVal
public import proofs.«01_k».proof.Proof.Ideal.RunAll
public import proofs.«01_k».proof.Proof.Ideal.Spec
public import Idealize.ShloMosaic.Lib.IdealHost

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx Idealize.ShloMosaic.StableHlo

/-! ## The selection matrix -/

/-- A lane number over four, rounded down, of words. -/
theorem floorDiv_apply (i : Fin 32) (l : Fin 128) :
    floorDiv (iotaInDim S32x128 32 1) (constantI S_ 32 4#32) (ix2 i l) = BitVec.ofNat 32 (l.val / 4) := by
  have h : ∀ l : Fin 128, floorDiv (iotaInDim S32x128 32 1) (constantI S_ 32 4#32) (ix2 (0 : Fin 32) l) = BitVec.ofNat 32 (l.val / 4) := by
    decide +kernel
  exact (show floorDiv (iotaInDim S32x128 32 1) (constantI S_ 32 4#32) (ix2 i l) = floorDiv (iotaInDim S32x128 32 1) (constantI S_ 32 4#32) (ix2 (0 : Fin 32) l) from rfl).trans (h l)

/-- The comparison of that quotient with the row number, as a real, is the selection matrix. -/
theorem isSel : IsSel (uitofp .bf16 (cmpi .eq (floorDiv (iotaInDim S32x128 32 1) (constantI S_ 32 4#32)) (iotaInDim S32x128 32 0))) := by
  intro i l
  have hw : cmpi .eq (floorDiv (iotaInDim S32x128 32 1) (constantI S_ 32 4#32)) (iotaInDim S32x128 32 0) (ix2 i l)
      = if l.val / 4 = i.val then 1#1 else 0#1 := by
    show BitVec.ofBool (floorDiv (iotaInDim S32x128 32 1) (constantI S_ 32 4#32) (ix2 i l) == BitVec.ofNat 32 i.val) = _
    rw [floorDiv_apply]
    have h : ∀ (i : Fin 32) (l : Fin 128), BitVec.ofBool (BitVec.ofNat 32 (l.val / 4) == BitVec.ofNat 32 i.val) = if l.val / 4 = i.val then 1#1 else 0#1 := by
      decide +kernel
    exact h i l
  show (((cmpi .eq (floorDiv (iotaInDim S32x128 32 1) (constantI S_ 32 4#32)) (iotaInDim S32x128 32 0) (ix2 i l)).toNat : ℝ) : EReal) = _
  rw [hw]
  split
  · simp
  · simp

/-! ## The arrays the kernels find -/

variable (m : (ℓ : Loc nD τ sig) → Buf (Elt Ideal) ℓ) (c : Dev nD)

/-- The three arguments. -/
def argX : (⟨2, ![3, 960]⟩ : Shape).Idx → EReal := m ((c : Thread nD τ).loc main_arg0)
def argY : (⟨3, ![24, 256, 40]⟩ : Shape).Idx → EReal := m ((c : Thread nD τ).loc main_arg1)
def argC : (⟨3, ![131072, 24, 32]⟩ : Shape).Idx → BitVec 8 := m ((c : Thread nD τ).loc main_arg2)

theorem vecs_apply (b : Fin 3) (p : Fin 24) (d : Fin 40) :
    vecs (V1 m) c (ix4 b p d 0) = argX m c (ix2 b (⟨40 * p.val + d.val, by omega⟩ : Fin 960)) := by
  unfold vecs
  refine (congrFun (stretch0_v0 (V0 m c)) _).trans (shapeCast_apply (α := EReal) (argX m c) _ _ _ ?_)
  rw [Shape.rowMajor_val_two, Shape.rowMajor_val_four]
  show b.val * 960 + (40 * p.val + d.val) = ((b.val * 24 + p.val) * 40 + d.val) * 1 + 0
  omega

theorem books_apply (p : Fin 24) (d : Fin 40) (k : Fin 256) :
    books (V1 m) c (ix3 p d k) = argY m c (ix3 p k d) := by
  unfold books
  refine (congrFun (stretch0_v1 (V0 m c)) _).trans (transpose_apply (α := EReal) _ _ _ _ _ fun a => ?_)
  match a with
  | ⟨0, _⟩ => rfl
  | ⟨1, _⟩ => rfl
  | ⟨2, _⟩ => rfl

/-- The table. -/
theorem lut_eq (b : Fin 3) (p : Fin 24) (k : Fin 256) :
    lutVal (vecs (V1 m) c) (books (V1 m) c) (ix3 b p k) = Spec.lut (argX m c) (argY m c) b p k := by
  show lutAt (vecs (V1 m) c) (books (V1 m) c) b p k = _
  unfold lutAt Spec.lut
  refine Finset.sum_congr rfl fun d _ => ?_
  rw [vecs_apply, books_apply]

/-- What the table kernel's region leaves in the table's buffer. -/
theorem V2_v2 (o : Outs (F := Ideal)) (ho : o 2 main_v2 c = outsA m 2 main_v2 c) :
    V2 m o c (Proc.devRef .tc main_v2) = lutVal (vecs (V1 m) c) (books (V1 m) c) := by
  refine (Function.update_self ..).trans (ho.trans ?_)
  refine (Pipeline.afterRegion_arr (dat0 (V1 m) c) (V1 m c) winFacts0.arr_inj 2).trans ?_
  exact arr0 (V1 m) c

/-- The tables the distance kernel finds. -/
theorem tabs_apply (b : Fin 3) (p : Fin 24) (h : Fin 2) (r : Fin 8) (l : Fin 128) :
    tabs (V5 m (outsA m)) c (ix5 b p h r l) = lutVal (vecs (V1 m) c) (books (V1 m) c) (ix3 b p (⟨128 * h.val + l.val, by omega⟩ : Fin 256)) := by
  have e : tabs (V5 m (outsA m)) c = broadcastInDim S3x24x2x8x128 ![0, 1, 2, 3, 4] bcast_S3x24x2x1x128_S3x24x2x8x128_0_1_2_3_4
      (shapeCast S3x24x2x1x128 (lutVal (vecs (V1 m) c) (books (V1 m) c)) shapeCasts_S3x24x256_S3x24x2x1x128) :=
    (V5_of m (outsA m) c main_v4 (by decide)).trans ((V4_of m (outsA m) c main_v4 (by decide)).trans
      ((stretch1_v4 (V2 m (outsA m) c)).trans (by rw [V2_v2 m c (outsA m) rfl])))
  rw [e]
  refine (broadcastInDim_apply (α := EReal) _ _ _ _ (ix5 b p h (0 : Fin 1) l) fun a => ?_).trans ?_
  · match a with
    | ⟨0, _⟩ => rfl
    | ⟨1, _⟩ => rfl
    | ⟨2, _⟩ => rfl
    | ⟨3, _⟩ => rfl
    | ⟨4, _⟩ => rfl
  · refine shapeCast_apply (α := EReal) _ _ _ _ ?_
    rw [Shape.rowMajor_val_three, Shape.rowMajor_val_five]
    show (b.val * 24 + p.val) * 256 + (128 * h.val + l.val) = (((b.val * 24 + p.val) * 2 + h.val) * 1 + 0) * 128 + l.val
    omega

/-- The selection matrix the distance kernel finds. -/
theorem sels_isSel : IsSel (sels (V5 m (outsA m)) c) := by
  have e5 : V3 m (outsA m) c (Proc.devRef .tc main_v5) = iotaInDim S32x128 32 1 := stretch1_v5 _
  have ec : V3 m (outsA m) c (Proc.devRef .tc main_c) = constantI S_ 32 4#32 := stretch1_c _
  have e6 : V4 m (outsA m) c (Proc.devRef .tc main_v6) = floorDiv (iotaInDim S32x128 32 1) (constantI S_ 32 4#32) :=
    (stretch2_v6 _).trans (by rw [e5, ec])
  have e : sels (V5 m (outsA m)) c = uitofp .bf16 (cmpi .eq (floorDiv (iotaInDim S32x128 32 1) (constantI S_ 32 4#32)) (iotaInDim S32x128 32 0)) :=
    (stretch3_v9 _).trans (by rw [e6])
  rw [e]
  exact isSel

/-- The codes the distance kernel finds. -/
theorem codes_apply (p : Fin 24) (r : Fin 32) (q : Fin 131072) :
    codes (V5 m (outsA m)) c (ix3 p r q) = argC m c (ix3 q p r) := by
  have e : codes (V5 m (outsA m)) c = transpose S24x32x131072 [1, 2, 0] (argC m c) transposes_S131072x24x32_S24x32x131072_1_2_0 :=
    (stretch3_v10 _).trans (by
      rw [show V4 m (outsA m) c (Proc.devRef .tc main_arg2) = argC m c from
        (V4_of m (outsA m) c main_arg2 (by decide)).trans ((V3_of m (outsA m) c main_arg2 (by decide)).trans
          ((V2_of m (outsA m) c main_arg2 (by decide)).trans (V1_of m c main_arg2 (by decide))))])
  rw [e]
  refine transpose_apply (α := BitVec 8) _ _ _ _ _ fun a => ?_
  match a with
  | ⟨0, _⟩ => rfl
  | ⟨1, _⟩ => rfl
  | ⟨2, _⟩ => rfl

/-! ## The two results -/

/-- The table's buffer at the end. -/
theorem end_lut (i : S3x24x256.Idx) :
    V6 m (outs m) c (Proc.devRef .tc main_v2) i = Spec.lut (argX m c) (argY m c) (i 0) (i 1) (i 2) := by
  refine (congrFun ((V6_of m (outs m) c main_v2 (by decide)).trans ((V5_of m (outs m) c main_v2 (by decide)).trans
    ((V4_of m (outs m) c main_v2 (by decide)).trans ((V3_of m (outs m) c main_v2 (by decide)).trans (V2_v2 m c (outs m) rfl))))) i).trans ?_
  exact lut_eq m c (i 0) (i 1) (i 2)

/-- An entry of the tables the distance kernel finds, at a code, is the table's entry at it. -/
theorem entry_lut (b : Fin 3) (p : Fin 24) (r : Fin 8) (w : BitVec 8) :
    entry (tabs (V5 m (outsA m)) c) b p r w.toNat = Spec.lut (argX m c) (argY m c) b p ⟨w.toNat, w.isLt⟩ := by
  have hw := w.isLt
  unfold entry
  rw [tabs_apply, lut_eq]
  congr 1
  apply Fin.ext
  show 128 * (w.toNat / 128 % 2) + w.toNat % 128 = w.toNat
  omega

/-- The distances' buffer at the end. -/
theorem end_dist (i : S3x4194304.Idx) :
    V6 m (outs m) c (Proc.devRef .tc main_v11) i = Spec.dist (argX m c) (argY m c) (argC m c) (i 0) (i 1) := by
  have e : V6 m (outs m) c (Proc.devRef .tc main_v11) = distVal (V5 m (outsA m)) c := by
    refine (Function.update_self ..).trans ?_
    refine (Pipeline.afterRegion_arr (dat1 (V5 m (outsA m)) c) (V5 m (outsA m) c) winFacts1.arr_inj 3).trans ?_
    exact arr1 (V5 m (outsA m)) c (sels_isSel m c)
  refine (congrFun e i).trans ?_
  show distVal (V5 m (outsA m)) c i = _
  unfold distVal distAt Spec.dist
  refine Finset.sum_congr rfl fun p _ => ?_
  rw [codes_apply]
  exact entry_lut m c (i 0) p _ _

/-- Every weakly fair execution of the kernel ends with the distances and the table as those sums, its arguments unchanged. -/
theorem run_values (ρ : Dev nD → PrngReg) :
    θ_run defs (onTc (τ := τ) (main (F := Ideal))) ⟨m, fun _ => 0, ρ⟩ fun r => ∀ c : Dev nD,
      r.2.mem ((c.tc : Thread nD τ).loc main_v11) = (fun i : S3x4194304.Idx => Spec.dist (argX m c) (argY m c) (argC m c) (i 0) (i 1))
      ∧ r.2.mem ((c.tc : Thread nD τ).loc main_v2) = (fun i : S3x24x256.Idx => Spec.lut (argX m c) (argY m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c _ (Finset.mem_filter.mpr ⟨StableHlo.devRef_mem_tcRefs main_v11, by decide⟩)).trans (funext (end_dist m c)),
      (h c _ (Finset.mem_filter.mpr ⟨StableHlo.devRef_mem_tcRefs main_v2, by decide⟩)).trans (funext (end_lut m c)),
      (h c _ (Finset.mem_filter.mpr ⟨StableHlo.devRef_mem_tcRefs main_arg0, by decide⟩)).trans (V6_main_arg0 m (outs m) c),
      (h c _ (Finset.mem_filter.mpr ⟨StableHlo.devRef_mem_tcRefs main_arg1, by decide⟩)).trans (V6_main_arg1 m (outs m) c),
      (h c _ (Finset.mem_filter.mpr ⟨StableHlo.devRef_mem_tcRefs main_arg2, by decide⟩)).trans (V6_main_arg2 m (outs m) c)⟩)
    (run m ρ)

end Cert.KernelIdeal.Own

end
-- ==== Proof.Ideal.Ref.lean ====
/-
  The reference's two results as plain sums over its arguments, over the reals.
-/
module

public import proofs.«01_k».proof.Proof.Gen.ReferenceIdeal.Run
public import proofs.«01_k».proof.Proof.Ideal.Spec
public import Idealize.ShloMosaic.Lib.IdealHost

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.ValueIdx

/-! ## The table lookup, read at an index -/

/-- The dimension numbers of the lookup. -/
abbrev lookDims := gather_S3x24x256_S24x4194304x1_S3x24x4194304_0_2_1_0_2_2_311

/-- The lookup at row `b`, piece `p`, column `n`: the table at the start index of that piece and column, read signed and
    brought into `[0, 255]`. -/
theorem look_apply (T : S3x24x256.Idx → EReal) (idx : IVec S24x4194304x1 32) (b : Fin 3) (p : Fin 24) (n : Fin 4194304) :
    Host.gather lookDims T idx (ix3 b p n) = T (ix3 b p (⟨min (idx (ix3 p n (0 : Fin 1))).toInt.toNat 255, by omega⟩ : Fin 256)) := by
  unfold Host.gather
  congr 1
  funext a
  refine Fin.ext ?_
  show lookDims.start (ix3 b p n) idx a + lookDims.batchCoord (ix3 b p n) a + lookDims.offCoord (ix3 b p n) a = _
  have n0 : (0 : Fin 3) ∉ lookDims.operandBatchingDims := show (0 : Fin 3) ∉ ([1] : List (Fin 3)) by decide
  have n0' : (0 : Fin 3) ∉ lookDims.startIndexMap := show (0 : Fin 3) ∉ ([2] : List (Fin 3)) by decide
  have k0 : (0 : Fin 3) ∈ lookDims.sKept := (GatherDims.mem_sKept _ _).mpr
    ⟨show (0 : Fin 3) ∉ ([2] : List (Fin 3)) by decide, show (0 : Fin 3) ∉ ([1] : List (Fin 3)) by decide⟩
  have b1 : (1 : Fin 3) ∈ lookDims.operandBatchingDims := show (1 : Fin 3) ∈ ([1] : List (Fin 3)) by decide
  have n2 : (2 : Fin 3) ∉ lookDims.operandBatchingDims := show (2 : Fin 3) ∉ ([1] : List (Fin 3)) by decide
  have s2 : (2 : Fin 3) ∈ lookDims.startIndexMap := show (2 : Fin 3) ∈ ([2] : List (Fin 3)) by decide
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.batchCoord_eq_zero _ _ _ n0]
    unfold GatherDims.start
    rw [dif_neg n0']
    unfold GatherDims.offCoord
    rw [dif_pos k0]
    show 0 + 0 + b.val = b.val
    omega
  · rw [GatherDims.start_batching _ _ _ _ b1,
      GatherDims.offCoord_eq_zero _ _ _ (fun h => ((GatherDims.mem_sKept _ _).mp h).2 b1)]
    simp only [Nat.zero_add, Nat.add_zero]
    unfold GatherDims.batchCoord
    rw [dif_pos b1]
    rfl
  · rw [GatherDims.batchCoord_eq_zero _ _ _ n2,
      GatherDims.offCoord_eq_zero _ _ _ (fun h => ((GatherDims.mem_sKept _ _).mp h).1 (show (2 : Fin 3) ∈ ([2] : List (Fin 3)) by decide))]
    simp only [Nat.add_zero]
    unfold GatherDims.start
    rw [dif_pos s2]
    have hsi : lookDims.siIdx (ix3 b p n) ⟨List.idxOf (2 : Fin 3) lookDims.startIndexMap,
        List.idxOf_lt_length_iff.2 s2⟩ = ix3 p n (0 : Fin 1) := by
      funext q; refine Fin.ext ?_
      match q with
      | ⟨0, _⟩ => rfl
      | ⟨1, _⟩ => rfl
      | ⟨2, _⟩ => rfl
    rw [hsi]
    rfl

/-! ## The table -/

variable (X : FVec Ideal S3x960 .bf16) (Y : FVec Ideal S24x256x40 .f32) (C : IVec S131072x24x32 8)

/-- The differences, of every piece of every vector to every code vector of that piece. -/
def diff : FVec Ideal S3x24x256x40 .f32 :=
  subf (broadcastInDim S3x24x256x40 ![0, 1, 2, 3] bcast_S3x24x1x40_S3x24x256x40_0_1_2_3 (broadcastInDim S3x24x1x40 ![0, 1, 3] bcast_S3x24x40_S3x24x1x40_0_1_3 (shapeCast S3x24x40 (extf .f32 X bitsLt_bf16_f32) shapeCasts_S3x960_S3x24x40)))
    (broadcastInDim S3x24x256x40 ![0, 1, 2, 3] bcast_S1x24x256x40_S3x24x256x40_0_1_2_3 (broadcastInDim S1x24x256x40 ![1, 2, 3] bcast_S24x256x40_S1x24x256x40_1_2_3 Y))

theorem diff_apply (b : Fin 3) (p : Fin 24) (k : Fin 256) (d : Fin 40) :
    diff X Y (ix4 b p k d) = (X (ix2 b (⟨40 * p.val + d.val, by omega⟩ : Fin 960)) : EReal) - Y (ix3 p k d) := by
  have e1 : broadcastInDim S3x24x256x40 ![0, 1, 2, 3] bcast_S3x24x1x40_S3x24x256x40_0_1_2_3 (broadcastInDim S3x24x1x40 ![0, 1, 3] bcast_S3x24x40_S3x24x1x40_0_1_3 (shapeCast S3x24x40 (extf .f32 X bitsLt_bf16_f32) shapeCasts_S3x960_S3x24x40)) (ix4 b p k d)
      = X (ix2 b (⟨40 * p.val + d.val, by omega⟩ : Fin 960)) := by
    refine (broadcastInDim_apply _ _ _ _ (ix4 b p (0 : Fin 1) d) fun a => ?_).trans ?_
    · match a with
      | ⟨0, _⟩ => rfl
      | ⟨1, _⟩ => rfl
      | ⟨2, _⟩ => rfl
      | ⟨3, _⟩ => rfl
    refine (broadcastInDim_apply _ _ _ _ (ix3 b p d) fun a => ?_).trans ?_
    · match a with
      | ⟨0, _⟩ => rfl
      | ⟨1, _⟩ => rfl
      | ⟨2, _⟩ => rfl
    refine (shapeCast_apply _ _ _ (ix2 b (⟨40 * p.val + d.val, by omega⟩ : Fin 960)) ?_).trans rfl
    rw [Shape.rowMajor_val_two, Shape.rowMajor_val_three]
    show b.val * 960 + (40 * p.val + d.val) = (b.val * 24 + p.val) * 40 + d.val
    omega
  have e2 : broadcastInDim S3x24x256x40 ![0, 1, 2, 3] bcast_S1x24x256x40_S3x24x256x40_0_1_2_3 (broadcastInDim S1x24x256x40 ![1, 2, 3] bcast_S24x256x40_S1x24x256x40_1_2_3 Y) (ix4 b p k d)
      = Y (ix3 p k d) := by
    refine (broadcastInDim_apply _ _ _ _ (ix4 (0 : Fin 1) p k d) fun a => ?_).trans ?_
    · match a with
      | ⟨0, _⟩ => rfl
      | ⟨1, _⟩ => rfl
      | ⟨2, _⟩ => rfl
      | ⟨3, _⟩ => rfl
    refine broadcastInDim_apply _ _ _ _ (ix3 p k d) fun a => ?_
    match a with
    | ⟨0, _⟩ => rfl
    | ⟨1, _⟩ => rfl
    | ⟨2, _⟩ => rfl
  exact congrArg₂ (fun u v : EReal => u - v) e1 e2

/-- The table as the reference computes it. -/
def table : FVec Ideal S3x24x256 .f32 :=
  Host.reduceAdd (mulf (diff X Y) (diff X Y)) (constant S_ .f32 0x00000000#32) reducesTo_S3x24x256x40_S3x24x256_d3 h_S_

theorem table_apply (b : Fin 3) (p : Fin 24) (k : Fin 256) : table X Y (ix3 b p k) = Spec.lut X Y b p k := by
  have hred : S3x24x256x40.Reduces [3] S3x24x256 := by decide
  unfold table
  rw [hostReduceAdd_apply, Ideal.hostReduceAdd_single _ hred]
  have h0 : constant (F := Ideal) S_ .f32 0x00000000#32 (Shape.Idx.first h_S_) = (0 : EReal) := Ideal.ofBits_zero_f32
  rw [h0, zero_add]
  refine Finset.sum_congr rfl fun d _ => ?_
  have e : hred.lift (ix3 b p k) d = ix4 b p k d := by
    funext a; apply Fin.ext
    match a with
    | ⟨0, _⟩ => rfl
    | ⟨1, _⟩ => rfl
    | ⟨2, _⟩ => rfl
    | ⟨3, _⟩ => rfl
  rw [e]
  exact congrArg (fun z : EReal => z * z) (diff_apply X Y b p k d)

/-! ## The distances -/

/-- The codes as words, one row per piece. -/
def words : IVec S1x24x4194304 32 :=
  shapeCast S1x24x4194304 (transpose S24x131072x32 [1, 0, 2] (extui 32 C natLt_8_32) transposes_S131072x24x32_S24x131072x32_1_0_2) shapeCasts_S24x131072x32_S1x24x4194304

theorem words_apply (p : Fin 24) (n : Fin 4194304) :
    words C (ix3 (0 : Fin 1) p n) = (C (ix3 (⟨n.val / 32, by omega⟩ : Fin 131072) p (⟨n.val % 32, by omega⟩ : Fin 32))).setWidth 32 := by
  unfold words
  refine (shapeCast_apply _ _ _ (ix3 p (⟨n.val / 32, by omega⟩ : Fin 131072) (⟨n.val % 32, by omega⟩ : Fin 32)) ?_).trans ?_
  · rw [Shape.rowMajor_val_three, Shape.rowMajor_val_three]
    show (p.val * 131072 + n.val / 32) * 32 + n.val % 32 = (0 * 24 + p.val) * 4194304 + n.val
    omega
  · refine (transpose_apply _ _ _ _ (ix3 (⟨n.val / 32, by omega⟩ : Fin 131072) p (⟨n.val % 32, by omega⟩ : Fin 32)) fun a => ?_).trans rfl
    match a with
    | ⟨0, _⟩ => rfl
    | ⟨1, _⟩ => rfl
    | ⟨2, _⟩ => rfl

/-- The start indices of the lookup: the codes, a negative one counted from the end. -/
def starts : IVec S24x4194304x1 32 :=
  shapeCast S24x4194304x1 (select (cmpi .slt (words C) (broadcastInDim S1x24x4194304 ![] bcast_S_S1x24x4194304 (constantI S_ 32 0#32)))
    (addi (words C) (broadcastInDim S1x24x4194304 ![] bcast_S_S1x24x4194304 (constantI S_ 32 256#32))) (words C)) shapeCasts_S1x24x4194304_S24x4194304x1

/-- A code is not negative, so the start index is the code. -/
theorem starts_apply (p : Fin 24) (n : Fin 4194304) :
    starts C (ix3 p n (0 : Fin 1)) = (C (ix3 (⟨n.val / 32, by omega⟩ : Fin 131072) p (⟨n.val % 32, by omega⟩ : Fin 32))).setWidth 32 := by
  unfold starts
  refine (shapeCast_apply _ _ _ (ix3 (0 : Fin 1) p n) ?_).trans ?_
  · rw [Shape.rowMajor_val_three, Shape.rowMajor_val_three]
    show (0 * 24 + p.val) * 4194304 + n.val = (p.val * 4194304 + n.val) * 1 + 0
    omega
  · show Scalar.select (BitVec.ofBool ((words C (ix3 (0 : Fin 1) p n)).slt 0#32)) (IntOp.addi (words C (ix3 (0 : Fin 1) p n)) 256#32) (words C (ix3 (0 : Fin 1) p n)) = _
    rw [words_apply]
    have h : ∀ w : BitVec 8, BitVec.ofBool ((w.setWidth 32).slt 0#32) = 0#1 := by decide +kernel
    rw [h]
    rfl

/-- The distances as the reference computes them. -/
def dists : FVec Ideal S3x4194304 .bf16 :=
  truncf .bf16 (Host.reduceAdd (Host.gather lookDims (table X Y) (starts C)) (constant S_ .f32 0x00000000#32) reducesTo_S3x24x4194304_S3x4194304_d1 h_S_) bitsLt_bf16_f32

theorem dists_apply (b : Fin 3) (n : Fin 4194304) : dists X Y C (ix2 b n) = Spec.dist X Y C b n := by
  have hred : S3x24x4194304.Reduces [1] S3x4194304 := by decide
  show Host.reduceAdd (F := Ideal) (φ := .f32) (Host.gather lookDims (table X Y) (starts C)) (constant S_ .f32 0x00000000#32) reducesTo_S3x24x4194304_S3x4194304_d1 h_S_ (ix2 b n) = _
  rw [hostReduceAdd_apply, Ideal.hostReduceAdd_single _ hred]
  have h0 : constant (F := Ideal) S_ .f32 0x00000000#32 (Shape.Idx.first h_S_) = (0 : EReal) := Ideal.ofBits_zero_f32
  rw [h0, zero_add]
  refine Finset.sum_congr rfl fun p _ => ?_
  have e : hred.lift (ix2 b n) p = ix3 b p n := by
    funext a; apply Fin.ext
    match a with
    | ⟨0, _⟩ => rfl
    | ⟨1, _⟩ => rfl
    | ⟨2, _⟩ => rfl
  rw [e]
  refine (look_apply (table X Y) (starts C) b p n).trans ?_
  refine (table_apply X Y b p _).trans ?_
  congr 1
  apply Fin.ext
  have h : ∀ w : BitVec 8, min (w.setWidth 32).toInt.toNat 255 = w.toNat := by decide +kernel
  exact (congrArg (fun w : BitVec 32 => min w.toInt.toNat 255) (starts_apply C p n)).trans (h _)

/-! ## The run -/

/-- Every weakly fair execution of the reference ends with the distances and the table as those sums, its arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = dists (m ((c.tc : Thread nD τ).loc main_arg0)) (m ((c.tc : Thread nD τ).loc main_arg1)) (m ((c.tc : Thread nD τ).loc main_arg2))
      ∧ r.2.mem ((c.tc : Thread nD τ).loc main_v8) = table (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.ReferenceIdeal.Own

end
-- ==== Proof.lean ====
module

public import proofs.«01_k».proof.Defs
public import proofs.«01_k».proof.Proof.Gen.ReferenceIdeal.Run
public import proofs.«01_k».proof.Proof.Bits.Run
public import proofs.«01_k».proof.Proof.Ideal.Run
public import proofs.«01_k».proof.Proof.Ideal.Final
public import proofs.«01_k».proof.Proof.Ideal.Ref
public import Idealize.ShloMosaic.Lib.Bf16PairInverse
public import Idealize.ShloMosaic.Lib.Quiescent

@[expose] public section

noncomputable section

namespace Cert.Proof

open Idealize.ShloMosaic Idealize.ShloMosaic.TcCoe Idealize.ShloMosaic.ValueIdx Idealize.SL.Sem

/-- The kernel runs to the end, leaves its arguments unchanged and every semaphore at zero. -/
theorem frame_p : Cert.quiescent_Kernel := fun m ρ _ => Cert.Kernel.Own.frame m ρ

/-- So does its idealization. -/
theorem frame_pi : Cert.quiescent_KernelIdeal := fun m ρ _ => Cert.KernelIdeal.Own.frame m ρ

/-- So does the reference: its run is a list of host operations, and it declares no semaphore. -/
theorem frame_ri : Cert.quiescent_ReferenceIdeal := fun m ρ _ =>
  (θ_run Cert.ReferenceIdeal.defs _ _).mono (fun r h => ⟨fun c => ⟨(h c).2.2.1, (h c).2.2.2.1, (h c).2.2.2.2⟩,
      Idealize.ShloMosaic.sem_eq_zero_of_no_sems (by decide) r.2⟩)
    (Cert.ReferenceIdeal.Value.run (F := Ideal) m ρ)

/-- Every rewrite the idealization applied is an instance of its rule: the scratch of packed words read as pairs of
    bf16 rows, the packing, the select against zero, and the words of the three vector shapes. -/
theorem preserves : Cert.preserves_Kernel_KernelIdeal :=
  ⟨IdealRules.bf16_pair.bufferStatement _ _, IdealRules.bf16_pair.packStatement _,
    IdealRules.bf16_pair.selectZeroStatement _, IdealRules.bf16_pair.statement _ _,
    IdealRules.bf16_pair.statement _ _, IdealRules.bf16_pair.statement _ _⟩

/-- Over the reals the kernel and the reference leave the same distances and the same table, from any arguments: both are
    the sums of `Cert.Spec`. -/
theorem algebraic : Cert.algebraic_KernelIdeal_ReferenceIdeal := by
  intro m g m' g' _ hin
  refine ⟨fun c => (fun i : Cert.KernelIdeal.S3x4194304.Idx => Spec.dist (Cert.KernelIdeal.Own.argX m c) (Cert.KernelIdeal.Own.argY m c) (Cert.KernelIdeal.Own.argC m c) (i 0) (i 1)),
    fun c => (fun i : Cert.KernelIdeal.S3x24x256.Idx => Spec.lut (Cert.KernelIdeal.Own.argX m c) (Cert.KernelIdeal.Own.argY m c) (i 0) (i 1) (i 2)),
    Cert.KernelIdeal.Own.run_values m g, ?_⟩
  refine (θ_run Cert.ReferenceIdeal.defs _ _).mono (fun r h c => ?_) (Cert.ReferenceIdeal.Own.run m' g')
  obtain ⟨e0, e1, e2⟩ := hin c
  refine ⟨(h c).1.trans ?_, (h c).2.1.trans ?_, (h c).2.2⟩
  · rw [e0, e1, e2]
    funext i
    exact (congrArg (Cert.ReferenceIdeal.Own.dists _ _ _) (eq_ix2 i)).trans (Cert.ReferenceIdeal.Own.dists_apply _ _ _ (i 0) (i 1))
  · rw [e0, e1]
    funext i
    exact (congrArg (Cert.ReferenceIdeal.Own.table _ _) (eq_ix3 i)).trans (Cert.ReferenceIdeal.Own.table_apply _ _ (i 0) (i 1) (i 2))

/-- The certificate's claim. -/
theorem claim : Cert.Claim :=
  ⟨Cert.Kernel.Gen.facts, Cert.KernelIdeal.Gen.facts, Cert.ReferenceIdeal.Gen.facts,
    frame_p, frame_pi, frame_ri, preserves, algebraic⟩

end Cert.Proof

end
